-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v41)) (v5 : (c : Dev Cert.KernelIdeal.nD) → Buf (Elt Ideal) ((c.tc : Thread Cert.KernelIdeal.nD Cert.KernelIdeal.τ).loc Cert.KernelIdeal.main_v42)) (v6 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_v42) = v5 c
          ∧ r.2.mem ((c.tc : Thread Cert.KernelIdeal.nD Cert.KernelIdeal.τ).loc Cert.KernelIdeal.main_v43) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v50) = v5 c
          ∧ r.2.mem ((c.tc : Thread Cert.ReferenceIdeal.nD Cert.ReferenceIdeal.τ).loc Cert.ReferenceIdeal.main_v75) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def algebraic_KernelIdeal_ReferenceIdeal_on_routing_results [hKernelIdeal : Cert.KernelIdeal.Facts] [hReferenceIdeal : Cert.ReferenceIdeal.Facts] [hOn_routing_results : Cert.On_routing_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v41)) (v5 : (c : Dev Cert.KernelIdeal.nD) → Buf (Elt Ideal) ((c.tc : Thread Cert.KernelIdeal.nD Cert.KernelIdeal.τ).loc Cert.KernelIdeal.main_v42)) (v6 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![1, 2048, 768]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v34) i = v0 c i)
          ∧ (∀ i : (⟨4, ![1, 2048, 12, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v36) i = v1 c i)
          ∧ (∀ i : (⟨4, ![1, 2048, 12, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v38) i = v2 c i)
          ∧ (∀ i : (⟨4, ![1, 2048, 12, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v40) i = v3 c i)
          ∧ (∀ i : (⟨2, ![24576, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v41) i = v4 c i)
          ∧ (∀ i : (⟨2, ![24576, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.KernelIdeal.nD Cert.KernelIdeal.τ).loc Cert.KernelIdeal.main_v42) i = v5 c i)
          ∧ (∀ i : (⟨2, ![24576, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 i = 1#1 → r.2.mem ((c.tc : Thread Cert.KernelIdeal.nD Cert.KernelIdeal.τ).loc Cert.KernelIdeal.main_v43) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![1, 2048, 768]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v101) i = v0 c i)
          ∧ (∀ i : (⟨4, ![1, 2048, 12, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v7) i = v1 c i)
          ∧ (∀ i : (⟨4, ![1, 2048, 12, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v32) i = v2 c i)
          ∧ (∀ i : (⟨4, ![1, 2048, 12, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v57) i = v3 c i)
          ∧ (∀ i : (⟨2, ![24576, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v25) i = v4 c i)
          ∧ (∀ i : (⟨2, ![24576, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.ReferenceIdeal.nD Cert.ReferenceIdeal.τ).loc Cert.ReferenceIdeal.main_v50) i = v5 c i)
          ∧ (∀ i : (⟨2, ![24576, 8]⟩ : Shape).Idx, (Cert.On_routing_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 i = 1#1 → r.2.mem ((c.tc : Thread Cert.ReferenceIdeal.nD Cert.ReferenceIdeal.τ).loc Cert.ReferenceIdeal.main_v75) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts) (hOn_routing_results : Cert.On_routing_results.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ algebraic_KernelIdeal_ReferenceIdeal_on_routing_results (hKernelIdeal := hKernelIdeal) (hReferenceIdeal := hReferenceIdeal) (hOn_routing_results := hOn_routing_results)
-- ==== On_routing_results.lean ====
abbrev S1x2048x768 : Shape := ⟨3, ![1, 2048, 768]⟩
abbrev S1x2048 : Shape := ⟨2, ![1, 2048]⟩
abbrev S8x64 : Shape := ⟨2, ![8, 64]⟩
abbrev S8 : Shape := ⟨1, ![8]⟩
abbrev S8x64x64 : Shape := ⟨3, ![8, 64, 64]⟩
abbrev S768x768 : Shape := ⟨2, ![768, 768]⟩
abbrev S_ : Shape := ⟨0, ![]⟩
abbrev S1x2048x12x8 : Shape := ⟨4, ![1, 2048, 12, 8]⟩
abbrev S24576x8 : Shape := ⟨2, ![24576, 8]⟩

class Facts : Prop where
  bcast_S_S1x2048x12x8 : S_.BroadcastsInDim S1x2048x12x8 (![] : Fin 0 → Fin S1x2048x12x8.rank)
  bcast_S_S24576x8 : S_.BroadcastsInDim S24576x8 (![] : Fin 0 → Fin S24576x8.rank)
  bcast_S_S1x2048x768 : S_.BroadcastsInDim S1x2048x768 (![] : Fin 0 → Fin S1x2048x768.rank)

variable [Facts]

def fn {F : FTy → Type} [FloatOps F] (main_arg0 : FVec F S1x2048x768 .f32) (main_arg1 : IVec S1x2048 32) (main_arg2 : FVec F S8x64 .f32) (main_arg3 : FVec F S8 .f32) (main_arg4 : FVec F S8x64 .f32) (main_arg5 : FVec F S8 .f32) (main_arg6 : FVec F S8x64 .f32) (main_arg7 : FVec F S8 .f32) (main_arg8 : FVec F S8x64x64 .f32) (main_arg9 : FVec F S8x64x64 .f32) (main_arg10 : FVec F S768x768 .f32) : IVec S1x2048x768 1 × IVec S1x2048x12x8 1 × IVec S1x2048x12x8 1 × IVec S1x2048x12x8 1 × IVec S24576x8 1 × IVec S24576x8 1 × IVec S24576x8 1 :=
  let main_c : IVec S_ 1 := constantI S_ 1 1#1
  let main_v0 : IVec S1x2048x12x8 1 := broadcastInDim S1x2048x12x8 ![] bcast_S_S1x2048x12x8 main_c
  let main_c_0 : IVec S_ 1 := constantI S_ 1 1#1
  let main_v1 : IVec S24576x8 1 := broadcastInDim S24576x8 ![] bcast_S_S24576x8 main_c_0
  let main_c_1 : IVec S_ 1 := constantI S_ 1 0#1
  let main_v2 : IVec S1x2048x768 1 := broadcastInDim S1x2048x768 ![] bcast_S_S1x2048x768 main_c_1
  (main_v2, main_v0, main_v0, main_v0, main_v1, main_v1, main_v1)
-- ==== Pre_finite_inputs.lean ====
abbrev S1x2048x768 : Shape := ⟨3, ![1, 2048, 768]⟩
abbrev S1x2048 : Shape := ⟨2, ![1, 2048]⟩
abbrev S8x64 : Shape := ⟨2, ![8, 64]⟩
abbrev S8 : Shape := ⟨1, ![8]⟩
abbrev S8x64x64 : Shape := ⟨3, ![8, 64, 64]⟩
abbrev S768x768 : Shape := ⟨2, ![768, 768]⟩
abbrev S_ : Shape := ⟨0, ![]⟩

class Facts : Prop where
  bcast_S_S1x2048x768 : S_.BroadcastsInDim S1x2048x768 (![] : Fin 0 → Fin S1x2048x768.rank)
  bcast_S_S8x64 : S_.BroadcastsInDim S8x64 (![] : Fin 0 → Fin S8x64.rank)
  bcast_S_S8 : S_.BroadcastsInDim S8 (![] : Fin 0 → Fin S8.rank)
  bcast_S_S8x64x64 : S_.BroadcastsInDim S8x64x64 (![] : Fin 0 → Fin S8x64x64.rank)

variable [Facts]

def fn_part1 {F : FTy → Type} [FloatOps F] (main_arg9 : FVec F S8x64x64 .f32) (main_v2 : IVec S1x2048x768 1) (main_v5 : IVec S8x64 1) (main_v8 : IVec S8 1) (main_v11 : IVec S8x64 1) (main_v14 : IVec S8 1) (main_v17 : IVec S8x64x64 1) : IVec S1x2048x768 1 × IVec S8x64 1 × IVec S8 1 × IVec S8x64 1 × IVec S8 1 × IVec S8x64x64 1 × IVec S8x64x64 1 :=
  let main_v18 : FVec F S8x64x64 .f32 := Host.absf main_arg9
  let main_cst_5 : FVec F S_ .f32 := constant S_ .f32 0x7F800000#32
  let main_v19 : FVec F S8x64x64 .f32 := broadcastInDim S8x64x64 ![] bcast_S_S8x64x64 main_cst_5
  let main_v20 : IVec S8x64x64 1 := cmpf .olt main_v18 main_v19
  (main_v2, main_v5, main_v8, main_v11, main_v14, main_v17, main_v20)

def fn {F : FTy → Type} [FloatOps F] (main_arg0 : FVec F S1x2048x768 .f32) (main_arg1 : IVec S1x2048 32) (main_arg2 : FVec F S8x64 .f32) (main_arg3 : FVec F S8 .f32) (main_arg4 : FVec F S8x64 .f32) (main_arg5 : FVec F S8 .f32) (main_arg6 : FVec F S8x64 .f32) (main_arg7 : FVec F S8 .f32) (main_arg8 : FVec F S8x64x64 .f32) (main_arg9 : FVec F S8x64x64 .f32) (main_arg10 : FVec F S768x768 .f32) : IVec S1x2048x768 1 × IVec S8x64 1 × IVec S8 1 × IVec S8x64 1 × IVec S8 1 × IVec S8x64x64 1 × IVec S8x64x64 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_v3 : FVec F S8x64 .f32 := Host.absf main_arg2
  let main_cst_0 : FVec F S_ .f32 := constant S_ .f32 0x7F800000#32
  let main_v4 : FVec F S8x64 .f32 := broadcastInDim S8x64 ![] bcast_S_S8x64 main_cst_0
  let main_v5 : IVec S8x64 1 := cmpf .olt main_v3 main_v4
  let main_v6 : FVec F S8 .f32 := Host.absf main_arg3
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S8x64 .f32 := Host.absf main_arg4
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_v12 : FVec F S8 .f32 := Host.absf main_arg5
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  let main_v15 : FVec F S8x64x64 .f32 := Host.absf main_arg8
  let main_cst_4 : FVec F S_ .f32 := constant S_ .f32 0x7F800000#32
  let main_v16 : FVec F S8x64x64 .f32 := broadcastInDim S8x64x64 ![] bcast_S_S8x64x64 main_cst_4
  let main_v17 : IVec S8x64x64 1 := cmpf .olt main_v15 main_v16
  fn_part1 (F := F) main_arg9 main_v2 main_v5 main_v8 main_v11 main_v14 main_v17
-- ==== Kernel.lean ====
abbrev S1x2048x768 : Shape := ⟨3, ![1, 2048, 768]⟩
abbrev S1x2048 : Shape := ⟨2, ![1, 2048]⟩
abbrev S8x64 : Shape := ⟨2, ![8, 64]⟩
abbrev S8 : Shape := ⟨1, ![8]⟩
abbrev S8x64x64 : Shape := ⟨3, ![8, 64, 64]⟩
abbrev S768x768 : Shape := ⟨2, ![768, 768]⟩
abbrev S24576x64 : Shape := ⟨2, ![24576, 64]⟩
abbrev S64x8x64 : Shape := ⟨3, ![64, 8, 64]⟩
abbrev S64x512 : Shape := ⟨2, ![64, 512]⟩
abbrev S512 : Shape := ⟨1, ![512]⟩
abbrev S512x1 : Shape := ⟨2, ![512, 1]⟩
abbrev S_ : Shape := ⟨0, ![]⟩
abbrev S1x8 : Shape := ⟨2, ![1, 8]⟩
abbrev S512x8 : Shape := ⟨2, ![512, 8]⟩
abbrev S64 : Shape := ⟨1, ![64]⟩
abbrev S1x64 : Shape := ⟨2, ![1, 64]⟩
abbrev S512x64 : Shape := ⟨2, ![512, 64]⟩
abbrev S8x1 : Shape := ⟨2, ![8, 1]⟩
abbrev S8x24576 : Shape := ⟨2, ![8, 24576]⟩
abbrev S3072x64 : Shape := ⟨2, ![3072, 64]⟩
abbrev S8x3072 : Shape := ⟨2, ![8, 3072]⟩
abbrev S3072x512 : Shape := ⟨2, ![3072, 512]⟩
abbrev S1x64x64 : Shape := ⟨3, ![1, 64, 64]⟩
abbrev S64x64 : Shape := ⟨2, ![64, 64]⟩
abbrev S2048x12x64 : Shape := ⟨3, ![2048, 12, 64]⟩
abbrev S12x2048x64 : Shape := ⟨3, ![12, 2048, 64]⟩
abbrev S1x2048x64 : Shape := ⟨3, ![1, 2048, 64]⟩
abbrev S2048x64 : Shape := ⟨2, ![2048, 64]⟩
abbrev S2048x1 : Shape := ⟨2, ![2048, 1]⟩
abbrev S2048x2048 : Shape := ⟨2, ![2048, 2048]⟩
abbrev S2048 : Shape := ⟨1, ![2048]⟩
abbrev S2048x768 : Shape := ⟨2, ![2048, 768]⟩
abbrev S512x768 : Shape := ⟨2, ![512, 768]⟩
abbrev S24576x8 : Shape := ⟨2, ![24576, 8]⟩
abbrev S1x2048x12x8 : Shape := ⟨4, ![1, 2048, 12, 8]⟩

abbrev nBuf : Space → Nat
  | .hbm => 101
  | .vmem => 43
  | .smem => 0
  | _ => 0

abbrev bufTy : (tb : Table) → Fin (tcTables nBuf tb) → BufTy
  | .hbm, ⟨0, _⟩ => ⟨S1x2048x768, .f32⟩
  | .hbm, ⟨1, _⟩ => ⟨S1x2048, .i32⟩
  | .hbm, ⟨2, _⟩ => ⟨S8x64, .f32⟩
  | .hbm, ⟨3, _⟩ => ⟨S8, .f32⟩
  | .hbm, ⟨4, _⟩ => ⟨S8x64, .f32⟩
  | .hbm, ⟨5, _⟩ => ⟨S8, .f32⟩
  | .hbm, ⟨6, _⟩ => ⟨S8x64, .f32⟩
  | .hbm, ⟨7, _⟩ => ⟨S8, .f32⟩
  | .hbm, ⟨8, _⟩ => ⟨S8x64x64, .f32⟩
  | .hbm, ⟨9, _⟩ => ⟨S8x64x64, .f32⟩
  | .hbm, ⟨10, _⟩ => ⟨S768x768, .f32⟩
  | .hbm, ⟨11, _⟩ => ⟨S24576x64, .f32⟩
  | .hbm, ⟨12, _⟩ => ⟨S64x8x64, .f32⟩
  | .hbm, ⟨13, _⟩ => ⟨S64x512, .f32⟩
  | .hbm, ⟨14, _⟩ => ⟨S512, .i32⟩
  | .hbm, ⟨15, _⟩ => ⟨S512x1, .i32⟩
  | .hbm, ⟨16, _⟩ => ⟨S_, .i32⟩
  | .hbm, ⟨17, _⟩ => ⟨S_, .i32⟩
  | .hbm, ⟨18, _⟩ => ⟨S512x1, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S512x1, .i32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S512x1, .i1⟩
  | .hbm, ⟨30, _⟩ => ⟨S_, .i32⟩
  | .hbm, ⟨31, _⟩ => ⟨S512x1, .i32⟩
  | .hbm, ⟨32, _⟩ => ⟨S512x1, .i32⟩
  | .hbm, ⟨33, _⟩ => ⟨S512x1, .i32⟩
  | .hbm, ⟨34, _⟩ => ⟨S8, .i32⟩
  | .hbm, ⟨35, _⟩ => ⟨S1x8, .i32⟩
  | .hbm, ⟨36, _⟩ => ⟨S512x8, .i32⟩
  | .hbm, ⟨37, _⟩ => ⟨S512x8, .i32⟩
  | .hbm, ⟨38, _⟩ => ⟨S512x8, .i1⟩
  | .hbm, ⟨39, _⟩ => ⟨S512x8, .f32⟩
  | .hbm, ⟨40, _⟩ => ⟨S512x1, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S512x1, .i32⟩
  | .hbm, ⟨48, _⟩ => ⟨S512x1, .i32⟩
  | .hbm, ⟨49, _⟩ => ⟨S_, .i32⟩
  | .hbm, ⟨50, _⟩ => ⟨S512x1, .i32⟩
  | .hbm, ⟨51, _⟩ => ⟨S512x1, .i1⟩
  | .hbm, ⟨52, _⟩ => ⟨S_, .i32⟩
  | .hbm, ⟨53, _⟩ => ⟨S512x1, .i32⟩
  | .hbm, ⟨54, _⟩ => ⟨S512x1, .i1⟩
  | .hbm, ⟨55, _⟩ => ⟨S_, .i32⟩
  | .hbm, ⟨56, _⟩ => ⟨S_, .i1⟩
  | .hbm, ⟨57, _⟩ => ⟨S512x1, .i1⟩
  | .hbm, ⟨58, _⟩ => ⟨S512x1, .i1⟩
  | .hbm, ⟨59, _⟩ => ⟨S512x1, .i1⟩
  | .hbm, ⟨60, _⟩ => ⟨S512x1, .i32⟩
  | .hbm, ⟨61, _⟩ => ⟨S512x1, .i32⟩
  | .hbm, ⟨62, _⟩ => ⟨S512x1, .i32⟩
  | .hbm, ⟨63, _⟩ => ⟨S64, .i32⟩
  | .hbm, ⟨64, _⟩ => ⟨S1x64, .i32⟩
  | .hbm, ⟨65, _⟩ => ⟨S512x64, .i32⟩
  | .hbm, ⟨66, _⟩ => ⟨S512x64, .i32⟩
  | .hbm, ⟨67, _⟩ => ⟨S512x64, .i1⟩
  | .hbm, ⟨68, _⟩ => ⟨S512x64, .f32⟩
  | .hbm, ⟨69, _⟩ => ⟨S8x1, .f32⟩
  | .hbm, ⟨70, _⟩ => ⟨S8x1, .f32⟩
  | .hbm, ⟨71, _⟩ => ⟨S8x1, .f32⟩
  | .hbm, ⟨72, _⟩ => ⟨S24576x64, .f32⟩
  | .hbm, ⟨73, _⟩ => ⟨S24576x64, .f32⟩
  | .hbm, ⟨74, _⟩ => ⟨S24576x64, .f32⟩
  | .hbm, ⟨75, _⟩ => ⟨S8x24576, .f32⟩
  | .hbm, ⟨76, _⟩ => ⟨S8x24576, .f32⟩
  | .hbm, ⟨77, _⟩ => ⟨S8x24576, .f32⟩
  | .hbm, ⟨78, _⟩ => ⟨S8x24576, .f32⟩
  | .hbm, ⟨79, _⟩ => ⟨S8x24576, .f32⟩
  | .hbm, ⟨80, _⟩ => ⟨S8x24576, .f32⟩
  | .hbm, ⟨81, _⟩ => ⟨S2048x12x64, .f32⟩
  | .hbm, ⟨82, _⟩ => ⟨S12x2048x64, .f32⟩
  | .hbm, ⟨83, _⟩ => ⟨S2048x12x64, .f32⟩
  | .hbm, ⟨84, _⟩ => ⟨S12x2048x64, .f32⟩
  | .hbm, ⟨85, _⟩ => ⟨S2048x12x64, .f32⟩
  | .hbm, ⟨86, _⟩ => ⟨S12x2048x64, .f32⟩
  | .hbm, ⟨87, _⟩ => ⟨S12x2048x64, .f32⟩
  | .hbm, ⟨88, _⟩ => ⟨S2048x12x64, .f32⟩
  | .hbm, ⟨89, _⟩ => ⟨S2048x768, .f32⟩
  | .hbm, ⟨90, _⟩ => ⟨S2048x768, .f32⟩
  | .hbm, ⟨91, _⟩ => ⟨S1x2048x768, .f32⟩
  | .hbm, ⟨92, _⟩ => ⟨S24576x8, .f32⟩
  | .hbm, ⟨93, _⟩ => ⟨S1x2048x12x8, .f32⟩
  | .hbm, ⟨94, _⟩ => ⟨S24576x8, .f32⟩
  | .hbm, ⟨95, _⟩ => ⟨S1x2048x12x8, .f32⟩
  | .hbm, ⟨96, _⟩ => ⟨S24576x8, .f32⟩
  | .hbm, ⟨97, _⟩ => ⟨S1x2048x12x8, .f32⟩
  | .hbm, ⟨98, _⟩ => ⟨S24576x8, .f32⟩
  | .hbm, ⟨99, _⟩ => ⟨S24576x8, .f32⟩
  | .hbm, ⟨100, _⟩ => ⟨S24576x8, .f32⟩
  | .local _ .vmem, ⟨0, _⟩ => ⟨S3072x64, .f32⟩
  | .local _ .vmem, ⟨1, _⟩ => ⟨S3072x64, .f32⟩
  | .local _ .vmem, ⟨2, _⟩ => ⟨S64x512, .f32⟩
  | .local _ .vmem, ⟨3, _⟩ => ⟨S8x64x64, .f32⟩
  | .local _ .vmem, ⟨4, _⟩ => ⟨S512x8, .f32⟩
  | .local _ .vmem, ⟨5, _⟩ => ⟨S512x64, .f32⟩
  | .local _ .vmem, ⟨6, _⟩ => ⟨S8x64, .f32⟩
  | .local _ .vmem, ⟨7, _⟩ => ⟨S8x1, .f32⟩
  | .local _ .vmem, ⟨8, _⟩ => ⟨S8x64, .f32⟩
  | .local _ .vmem, ⟨9, _⟩ => ⟨S8x1, .f32⟩
  | .local _ .vmem, ⟨10, _⟩ => ⟨S8x64, .f32⟩
  | .local _ .vmem, ⟨11, _⟩ => ⟨S8x1, .f32⟩
  | .local _ .vmem, ⟨12, _⟩ => ⟨S3072x64, .f32⟩
  | .local _ .vmem, ⟨13, _⟩ => ⟨S3072x64, .f32⟩
  | .local _ .vmem, ⟨14, _⟩ => ⟨S3072x64, .f32⟩
  | .local _ .vmem, ⟨15, _⟩ => ⟨S3072x64, .f32⟩
  | .local _ .vmem, ⟨16, _⟩ => ⟨S3072x64, .f32⟩
  | .local _ .vmem, ⟨17, _⟩ => ⟨S3072x64, .f32⟩
  | .local _ .vmem, ⟨18, _⟩ => ⟨S8x3072, .f32⟩
  | .local _ .vmem, ⟨19, _⟩ => ⟨S8x3072, .f32⟩
  | .local _ .vmem, ⟨20, _⟩ => ⟨S8x3072, .f32⟩
  | .local _ .vmem, ⟨21, _⟩ => ⟨S8x3072, .f32⟩
  | .local _ .vmem, ⟨22, _⟩ => ⟨S8x3072, .f32⟩
  | .local _ .vmem, ⟨23, _⟩ => ⟨S8x3072, .f32⟩
  | .local _ .vmem, ⟨24, _⟩ => ⟨S8x3072, .f32⟩
  | .local _ .vmem, ⟨25, _⟩ => ⟨S8x3072, .f32⟩
  | .local _ .vmem, ⟨26, _⟩ => ⟨S8x3072, .f32⟩
  | .local _ .vmem, ⟨27, _⟩ => ⟨S8x3072, .f32⟩
  | .local _ .vmem, ⟨28, _⟩ => ⟨S8x3072, .f32⟩
  | .local _ .vmem, ⟨29, _⟩ => ⟨S8x3072, .f32⟩
  | .local _ .vmem, ⟨30, _⟩ => ⟨S1x2048x64, .f32⟩
  | .local _ .vmem, ⟨31, _⟩ => ⟨S1x2048x64, .f32⟩
  | .local _ .vmem, ⟨32, _⟩ => ⟨S1x2048x64, .f32⟩
  | .local _ .vmem, ⟨33, _⟩ => ⟨S1x2048x64, .f32⟩
  | .local _ .vmem, ⟨34, _⟩ => ⟨S1x2048x64, .f32⟩
  | .local _ .vmem, ⟨35, _⟩ => ⟨S1x2048x64, .f32⟩
  | .local _ .vmem, ⟨36, _⟩ => ⟨S1x2048x64, .f32⟩
  | .local _ .vmem, ⟨37, _⟩ => ⟨S1x2048x64, .f32⟩
  | .local _ .vmem, ⟨38, _⟩ => ⟨S512x768, .f32⟩
  | .local _ .vmem, ⟨39, _⟩ => ⟨S512x768, .f32⟩
  | .local _ .vmem, ⟨40, _⟩ => ⟨S768x768, .f32⟩
  | .local _ .vmem, ⟨41, _⟩ => ⟨S512x768, .f32⟩
  | .local _ .vmem, ⟨42, _⟩ => ⟨S512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_0 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23_0 : Ref sig .tc := ⟨.hbm, 72, rfl⟩
abbrev main_v23_1 : Ref sig .tc := ⟨.hbm, 73, rfl⟩
abbrev main_v23_2 : Ref sig .tc := ⟨.hbm, 74, rfl⟩
abbrev main_v23_3 : Ref sig .tc := ⟨.hbm, 75, rfl⟩
abbrev main_v23_4 : Ref sig .tc := ⟨.hbm, 76, rfl⟩
abbrev main_v23_5 : Ref sig .tc := ⟨.hbm, 77, rfl⟩
abbrev main_v23_6 : Ref sig .tc := ⟨.hbm, 78, rfl⟩
abbrev main_v23_7 : Ref sig .tc := ⟨.hbm, 79, rfl⟩
abbrev main_v23_8 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg3_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg2_0 : Ref sig .tc := ⟨.vmem, 41, rfl⟩
abbrev cc2_stg2_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc1_sem0_0 : DmaSem sig := 30
abbrev cc1_sem0_1 : DmaSem sig := 31
abbrev cc1_sem1_0 : DmaSem sig := 32
abbrev cc1_sem1_1 : DmaSem sig := 33
abbrev cc1_sem2_0 : DmaSem sig := 34
abbrev cc1_sem2_1 : DmaSem sig := 35
abbrev cc1_sem3_0 : DmaSem sig := 36
abbrev cc1_sem3_1 : DmaSem sig := 37
abbrev cc2_sem0_0 : DmaSem sig := 38
abbrev cc2_sem0_1 : DmaSem sig := 39
abbrev cc2_sem1_0 : DmaSem sig := 40
abbrev cc2_sem2_0 : DmaSem sig := 41
abbrev cc2_sem2_1 : DmaSem sig := 42

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3072x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S3072x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3072x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3072x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x3072 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x3072 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x3072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x3072 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x3072 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev grid1 : Pipeline.Grid := ⟨2, ![12, 1], ![false, false]⟩

@[reducible] def k1_t1_loop (i : grid1.Coords) : Scf.Loop 32 :=
  let c0_i32_9 : BitVec 32 := 0#32
  let arg1 : BitVec 32 := BitVec.ofNat 32 (i 1).val
  let c2048_i32 : BitVec 32 := 2048#32
  let v2 : BitVec 32 := Scalar.muli arg1 c2048_i32
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c2048_i32_2 : BitVec 32 := 2048#32
  let c0_i32_4 : BitVec 32 := 0#32
  let v9 : BitVec 1 := Scalar.cmpi .sgt c2048_i32_2 c0_i32_4
  let v10 : BitVec 32 := Scalar.extui v9
  let c0_i32_5 : BitVec 32 := 0#32
  let v11 : BitVec 1 := Scalar.cmpi .slt c2048_i32_2 c0_i32_5
  let v12 : BitVec 32 := Scalar.extui v11
  let v13 : BitVec 32 := Scalar.subi v10 v12
  let v14 : BitVec 1 := Scalar.cmpi .ne v8 v13
  let v15 : BitVec 32 := Scalar.remsi v2 c2048_i32_2
  let c0_i32_6 : BitVec 32 := 0#32
  let v16 : BitVec 1 := Scalar.cmpi .ne v15 c0_i32_6
  let v17 : BitVec 1 := Scalar.andi v14 v16
  let v3 : BitVec 32 := Scalar.divsi v2 c2048_i32_2
  let c1_i32 : BitVec 32 := 1#32
  let v18 : BitVec 32 := Scalar.subi v3 c1_i32
  let v19 : BitVec 32 := Scalar.select v17 v18 v3
  let v23 : BitVec 32 := Scalar.subi v19 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_11 : BitVec 32 := 1#32
  ⟨c0_i32_9, v27, c1_i32_11⟩
def k1_off1 (i : grid1.Coords) (k1_t1 : Fin (k1_t1_loop i).trips) : Fin 3 → Nat :=
  let c0_29 : Index := 0#32
  let c0_i32_9 : BitVec 32 := 0#32
  let c1_i32_11 : BitVec 32 := 1#32
  let arg6 : BitVec 32 := Scf.iv c0_i32_9 c1_i32_11 k1_t1
  let c2048_i32_28 : BitVec 32 := 2048#32
  let v67 : BitVec 32 := Scalar.muli arg6 c2048_i32_28
  let v68 : Index := Scalar.indexCast v67
  let c0_30 : Index := 0#32
  ![0, v68.toNat, 0]
@[reducible] def k1_t2_loop (i : grid1.Coords) : Scf.Loop 32 :=
  let c0_i32_9 : BitVec 32 := 0#32
  let arg1 : BitVec 32 := BitVec.ofNat 32 (i 1).val
  let c2048_i32 : BitVec 32 := 2048#32
  let v2 : BitVec 32 := Scalar.muli arg1 c2048_i32
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c2048_i32_2 : BitVec 32 := 2048#32
  let c0_i32_4 : BitVec 32 := 0#32
  let v9 : BitVec 1 := Scalar.cmpi .sgt c2048_i32_2 c0_i32_4
  let v10 : BitVec 32 := Scalar.extui v9
  let c0_i32_5 : BitVec 32 := 0#32
  let v11 : BitVec 1 := Scalar.cmpi .slt c2048_i32_2 c0_i32_5
  let v12 : BitVec 32 := Scalar.extui v11
  let v13 : BitVec 32 := Scalar.subi v10 v12
  let v14 : BitVec 1 := Scalar.cmpi .ne v8 v13
  let v15 : BitVec 32 := Scalar.remsi v2 c2048_i32_2
  let c0_i32_6 : BitVec 32 := 0#32
  let v16 : BitVec 1 := Scalar.cmpi .ne v15 c0_i32_6
  let v17 : BitVec 1 := Scalar.andi v14 v16
  let v3 : BitVec 32 := Scalar.divsi v2 c2048_i32_2
  let c1_i32 : BitVec 32 := 1#32
  let v18 : BitVec 32 := Scalar.subi v3 c1_i32
  let v19 : BitVec 32 := Scalar.select v17 v18 v3
  let v23 : BitVec 32 := Scalar.subi v19 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let v24 : BitVec 32 := Scalar.addi c0_i32_9 v23
  let c1_i32_12 : BitVec 32 := 1#32
  ⟨v27, v24, c1_i32_12⟩
def k1_off2 (i : grid1.Coords) (k1_t2 : Fin (k1_t2_loop i).trips) : Fin 3 → Nat :=
  let c0_29 : Index := 0#32
  let c0_i32_9 : BitVec 32 := 0#32
  let arg1 : BitVec 32 := BitVec.ofNat 32 (i 1).val
  let c2048_i32 : BitVec 32 := 2048#32
  let v2 : BitVec 32 := Scalar.muli arg1 c2048_i32
  let c0_i32 : BitVec 32 := 0#32
  let v4 : BitVec 1 := Scalar.cmpi .sgt v2 c0_i32
  let v5 : BitVec 32 := Scalar.extui v4
  let c0_i32_3 : BitVec 32 := 0#32
  let v6 : BitVec 1 := Scalar.cmpi .slt v2 c0_i32_3
  let v7 : BitVec 32 := Scalar.extui v6
  let v8 : BitVec 32 := Scalar.subi v5 v7
  let c2048_i32_2 : BitVec 32 := 2048#32
  let c0_i32_4 : BitVec 32 := 0#32
  let v9 : BitVec 1 := Scalar.cmpi .sgt c2048_i32_2 c0_i32_4
  let v10 : BitVec 32 := Scalar.extui v9
  let c0_i32_5 : BitVec 32 := 0#32
  let v11 : BitVec 1 := Scalar.cmpi .slt c2048_i32_2 c0_i32_5
  let v12 : BitVec 32 := Scalar.extui v11
  let v13 : BitVec 32 := Scalar.subi v10 v12
  let v14 : BitVec 1 := Scalar.cmpi .ne v8 v13
  let v15 : BitVec 32 := Scalar.remsi v2 c2048_i32_2
  let c0_i32_6 : BitVec 32 := 0#32
  let v16 : BitVec 1 := Scalar.cmpi .ne v15 c0_i32_6
  let v17 : BitVec 1 := Scalar.andi v14 v16
  let v3 : BitVec 32 := Scalar.divsi v2 c2048_i32_2
  let c1_i32 : BitVec 32 := 1#32
  let v18 : BitVec 32 := Scalar.subi v3 c1_i32
  let v19 : BitVec 32 := Scalar.select v17 v18 v3
  let v23 : BitVec 32 := Scalar.subi v19 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_12 : BitVec 32 := 1#32
  let arg6 : BitVec 32 := Scf.iv v27 c1_i32_12 k1_t2
  let c2048_i32_28 : BitVec 32 := 2048#32
  let v67 : BitVec 32 := Scalar.muli arg6 c2048_i32_28
  let v68 : Index := Scalar.indexCast v67
  let c0_30 : Index := 0#32
  ![0, v68.toNat, 0]
def k1_off3 (i : grid1.Coords) : Fin 3 → Nat :=
  let c0_14 : Index := 0#32
  let arg1 : BitVec 32 := BitVec.ofNat 32 (i 1).val
  let c2048_i32_13 : BitVec 32 := 2048#32
  let v30 : BitVec 32 := Scalar.muli arg1 c2048_i32_13
  let v31 : Index := Scalar.indexCast v30
  let c0_15 : Index := 0#32
  ![0, v31.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S1x2048x768 : Shape := ⟨3, ![1, 2048, 768]⟩
abbrev S1x2048 : Shape := ⟨2, ![1, 2048]⟩
abbrev S8x64 : Shape := ⟨2, ![8, 64]⟩
abbrev S8 : Shape := ⟨1, ![8]⟩
abbrev S8x64x64 : Shape := ⟨3, ![8, 64, 64]⟩
abbrev S768x768 : Shape := ⟨2, ![768, 768]⟩
abbrev S1x2048x12x64 : Shape := ⟨4, ![1, 2048, 12, 64]⟩
abbrev S1x2048x12x8 : Shape := ⟨4, ![1, 2048, 12, 8]⟩
abbrev S_ : Shape := ⟨0, ![]⟩
abbrev S1x1x1x8 : Shape := ⟨4, ![1, 1, 1, 8]⟩
abbrev S24576x8 : Shape := ⟨2, ![24576, 8]⟩
abbrev S24576x64 : Shape := ⟨2, ![24576, 64]⟩
abbrev S24576x8x64 : Shape := ⟨3, ![24576, 8, 64]⟩
abbrev S8x64x24576 : Shape := ⟨3, ![8, 64, 24576]⟩
abbrev S24576x8x1 : Shape := ⟨3, ![24576, 8, 1]⟩
abbrev S1x12x2048x64 : Shape := ⟨4, ![1, 12, 2048, 64]⟩
abbrev S1x12x2048x2048 : Shape := ⟨4, ![1, 12, 2048, 2048]⟩
abbrev S2048x2048 : Shape := ⟨2, ![2048, 2048]⟩
abbrev S1x1x2048x2048 : Shape := ⟨4, ![1, 1, 2048, 2048]⟩
abbrev S1x12x2048 : Shape := ⟨3, ![1, 12, 2048]⟩
abbrev S1x12x2048x1 : Shape := ⟨4, ![1, 12, 2048, 1]⟩

abbrev nBuf : Space → Nat
  | .hbm => 154
  | .vmem => 0
  | .smem => 0
  | _ => 0

abbrev hbmTy0_0 (i : Nat) : BufTy := match i % 128 with
  | 0 => ⟨S1x2048x768, .f32⟩
  | 1 => ⟨S1x2048, .i32⟩
  | 2 => ⟨S8x64, .f32⟩
  | 3 => ⟨S8, .f32⟩
  | 4 => ⟨S8x64, .f32⟩
  | 5 => ⟨S8, .f32⟩
  | 6 => ⟨S8x64, .f32⟩
  | 7 => ⟨S8, .f32⟩
  | 8 => ⟨S8x64x64, .f32⟩
  | 9 => ⟨S8x64x64, .f32⟩
  | 10 => ⟨S768x768, .f32⟩
  | 11 => ⟨S1x2048x12x64, .f32⟩
  | 12 => ⟨S1x2048x12x8, .f32⟩
  | 13 => ⟨S_, .f32⟩
  | 14 => ⟨S1x2048x12x8, .f32⟩
  | 15 => ⟨S1x2048x12x8, .f32⟩
  | 16 => ⟨S1x1x1x8, .f32⟩
  | 17 => ⟨S1x2048x12x8, .f32⟩
  | 18 => ⟨S1x2048x12x8, .f32⟩
  | 19 => ⟨S_, .f32⟩
  | 20 => ⟨S1x2048x12x8, .f32⟩
  | 21 => ⟨S1x2048x12x8, .f32⟩
  | 22 => ⟨S24576x8, .f32⟩
  | 23 => ⟨S_, .f32⟩
  | 24 => ⟨S24576x8, .f32⟩
  | 25 => ⟨S24576x8, .i1⟩
  | 26 => ⟨S24576x8, .f32⟩
  | 27 => ⟨S24576x64, .f32⟩
  | 28 => ⟨S24576x8x64, .f32⟩
  | 29 => ⟨S_, .f32⟩
  | 30 => ⟨S24576x8x64, .f32⟩
  | 31 => ⟨S24576x8x64, .f32⟩
  | 32 => ⟨S8x64x24576, .f32⟩
  | 33 => ⟨S24576x8x64, .f32⟩
  | 34 => ⟨S24576x8, .f32⟩
  | 35 => ⟨S24576x8x1, .f32⟩
  | 36 => ⟨S24576x8x64, .f32⟩
  | 37 => ⟨S24576x8x64, .f32⟩
  | 38 => ⟨S_, .f32⟩
  | 39 => ⟨S24576x64, .f32⟩
  | 40 => ⟨S1x2048x12x64, .f32⟩
  | 41 => ⟨S24576x8x64, .f32⟩
  | 42 => ⟨S_, .f32⟩
  | 43 => ⟨S24576x8, .f32⟩
  | 44 => ⟨S24576x8, .f32⟩
  | 45 => ⟨S1x2048x12x8, .f32⟩
  | 46 => ⟨S_, .f32⟩
  | 47 => ⟨S1x2048x12x8, .f32⟩
  | 48 => ⟨S1x2048x12x8, .f32⟩
  | 49 => ⟨S1x1x1x8, .f32⟩
  | 50 => ⟨S1x2048x12x8, .f32⟩
  | 51 => ⟨S1x2048x12x8, .f32⟩
  | 52 => ⟨S_, .f32⟩
  | 53 => ⟨S1x2048x12x8, .f32⟩
  | 54 => ⟨S1x2048x12x8, .f32⟩
  | 55 => ⟨S24576x8, .f32⟩
  | 56 => ⟨S_, .f32⟩
  | 57 => ⟨S24576x8, .f32⟩
  | 58 => ⟨S24576x8, .i1⟩
  | 59 => ⟨S24576x8, .f32⟩
  | 60 => ⟨S24576x64, .f32⟩
  | 61 => ⟨S24576x8x64, .f32⟩
  | 62 => ⟨S_, .f32⟩
  | 63 => ⟨S24576x8x64, .f32⟩
  | 64 => ⟨S24576x8x64, .f32⟩
  | 65 => ⟨S8x64x24576, .f32⟩
  | 66 => ⟨S24576x8x64, .f32⟩
  | 67 => ⟨S24576x8, .f32⟩
  | 68 => ⟨S24576x8x1, .f32⟩
  | 69 => ⟨S24576x8x64, .f32⟩
  | 70 => ⟨S24576x8x64, .f32⟩
  | 71 => ⟨S_, .f32⟩
  | 72 => ⟨S24576x64, .f32⟩
  | 73 => ⟨S1x2048x12x64, .f32⟩
  | 74 => ⟨S24576x8x64, .f32⟩
  | 75 => ⟨S_, .f32⟩
  | 76 => ⟨S24576x8, .f32⟩
  | 77 => ⟨S24576x8, .f32⟩
  | 78 => ⟨S1x2048x12x8, .f32⟩
  | 79 => ⟨S_, .f32⟩
  | 80 => ⟨S1x2048x12x8, .f32⟩
  | 81 => ⟨S1x2048x12x8, .f32⟩
  | 82 => ⟨S1x1x1x8, .f32⟩
  | 83 => ⟨S1x2048x12x8, .f32⟩
  | 84 => ⟨S1x2048x12x8, .f32⟩
  | 85 => ⟨S_, .f32⟩
  | 86 => ⟨S1x2048x12x8, .f32⟩
  | 87 => ⟨S1x2048x12x8, .f32⟩
  | 88 => ⟨S24576x8, .f32⟩
  | 89 => ⟨S_, .f32⟩
  | 90 => ⟨S24576x8, .f32⟩
  | 91 => ⟨S24576x8, .i1⟩
  | 92 => ⟨S24576x8, .f32⟩
  | 93 => ⟨S24576x64, .f32⟩
  | 94 => ⟨S24576x8x64, .f32⟩
  | 95 => ⟨S_, .f32⟩
  | 96 => ⟨S24576x8x64, .f32⟩
  | 97 => ⟨S24576x8x64, .f32⟩
  | 98 => ⟨S8x64x24576, .f32⟩
  | 99 => ⟨S24576x8x64, .f32⟩
  | 100 => ⟨S24576x8, .f32⟩
  | 101 => ⟨S24576x8x1, .f32⟩
  | 102 => ⟨S24576x8x64, .f32⟩
  | 103 => ⟨S24576x8x64, .f32⟩
  | 104 => ⟨S_, .f32⟩
  | 105 => ⟨S24576x64, .f32⟩
  | 106 => ⟨S1x2048x12x64, .f32⟩
  | 107 => ⟨S24576x8x64, .f32⟩
  | 108 => ⟨S_, .f32⟩
  | 109 => ⟨S24576x8, .f32⟩
  | 110 => ⟨S24576x8, .f32⟩
  | 111 => ⟨S1x12x2048x64, .f32⟩
  | 112 => ⟨S1x12x2048x64, .f32⟩
  | 113 => ⟨S1x12x2048x64, .f32⟩
  | 114 => ⟨S1x12x2048x2048, .f32⟩
  | 115 => ⟨S_, .f32⟩
  | 116 => ⟨S1x12x2048x2048, .f32⟩
  | 117 => ⟨S1x12x2048x2048, .f32⟩
  | 118 => ⟨S_, .i1⟩
  | 119 => ⟨S2048x2048, .i1⟩
  | 120 => ⟨S2048x2048, .i32⟩
  | 121 => ⟨S_, .i32⟩
  | 122 => ⟨S2048x2048, .i32⟩
  | 123 => ⟨S2048x2048, .i32⟩
  | 124 => ⟨S2048x2048, .i32⟩
  | 125 => ⟨S2048x2048, .i1⟩
  | 126 => ⟨S_, .i1⟩
  | 127 => ⟨S2048x2048, .i1⟩
  | _ => ⟨S1x2048x768, .f32⟩

abbrev hbmTy0_1 (i : Nat) : BufTy := match i % 128 with
  | 0 => ⟨S2048x2048, .i1⟩
  | 1 => ⟨S1x1x2048x2048, .i1⟩
  | 2 => ⟨S_, .f32⟩
  | 3 => ⟨S_, .f32⟩
  | 4 => ⟨S1x12x2048x2048, .i1⟩
  | 5 => ⟨S1x12x2048x2048, .f32⟩
  | 6 => ⟨S1x12x2048x2048, .f32⟩
  | 7 => ⟨S_, .f32⟩
  | 8 => ⟨S1x12x2048, .f32⟩
  | 9 => ⟨S_, .f32⟩
  | 10 => ⟨S1x12x2048, .f32⟩
  | 11 => ⟨S1x12x2048, .f32⟩
  | 12 => ⟨S1x12x2048x1, .f32⟩
  | 13 => ⟨S1x12x2048x2048, .f32⟩
  | 14 => ⟨S1x12x2048x2048, .f32⟩
  | 15 => ⟨S1x12x2048x2048, .f32⟩
  | 16 => ⟨S_, .f32⟩
  | 17 => ⟨S1x12x2048, .f32⟩
  | 18 => ⟨S1x12x2048x1, .f32⟩
  | 19 => ⟨S1x12x2048x2048, .f32⟩
  | 20 => ⟨S1x12x2048x2048, .f32⟩
  | 21 => ⟨S1x12x2048x64, .f32⟩
  | 22 => ⟨S1x2048x12x64, .f32⟩
  | 23 => ⟨S1x2048x768, .f32⟩
  | 24 => ⟨S768x768, .f32⟩
  | 25 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call0_cst : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_cst : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call3_cst : Ref sig .tc := ⟨.hbm, 62, rfl⟩
abbrev main_call3_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call4_cst : Ref sig .tc := ⟨.hbm, 85, rfl⟩
abbrev main_call4_v0 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call5_cst : Ref sig .tc := ⟨.hbm, 95, rfl⟩
abbrev main_call5_v0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_10 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_11 : Ref sig .tc := ⟨.hbm, 115, rfl⟩
abbrev main_v80 : Ref sig .tc := ⟨.hbm, 116, rfl⟩
abbrev main_v81 : Ref sig .tc := ⟨.hbm, 117, rfl⟩
abbrev main_c : Ref sig .tc := ⟨.hbm, 118, rfl⟩
abbrev main_v82 : Ref sig .tc := ⟨.hbm, 119, rfl⟩
abbrev main_call6_v0 : Ref sig .tc := ⟨.hbm, 120, rfl⟩
abbrev main_call6_c : Ref sig .tc := ⟨.hbm, 121, rfl⟩
abbrev main_call6_v1 : Ref sig .tc := ⟨.hbm, 122, rfl⟩
abbrev main_call6_v2 : Ref sig .tc := ⟨.hbm, 123, rfl⟩
abbrev main_call6_v3 : Ref sig .tc := ⟨.hbm, 124, rfl⟩
abbrev main_call6_v4 : Ref sig .tc := ⟨.hbm, 125, rfl⟩
abbrev main_call6_c_0 : Ref sig .tc := ⟨.hbm, 126, rfl⟩
abbrev main_call6_v5 : Ref sig .tc := ⟨.hbm, 127, rfl⟩
abbrev main_v83 : Ref sig .tc := ⟨.hbm, 128, rfl⟩
abbrev main_v84 : Ref sig .tc := ⟨.hbm, 129, rfl⟩
abbrev main_cst_12 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_v85 : Ref sig .tc := ⟨.hbm, 134, rfl⟩
abbrev main_cst_13 : Ref sig .tc := ⟨.hbm, 135, rfl⟩
abbrev main_v86 : Ref sig .tc := ⟨.hbm, 136, rfl⟩
abbrev main_cst_14 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_15 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩

abbrev nD : Nat := 1
abbrev τ : Topo := Topo.v7x

variable {F : FTy → Type} [FloatOps F]
-- ==== Proof.KRun.lean ====
/- The idealized kernel's run: every buffer ends at the contents the last stretch of host operations leaves. -/
module

public import proofs.«01_k».proof.Proof.Gen.KernelIdeal.Frame

@[expose] public section

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- From any memory with zero counters the kernel's program terminates, and every unscoped buffer of every device
    holds what the fold of the host stretches and the three regions, `W11`, says. -/
theorem run_final : θ_run defs (onTc (τ := τ) (main (F := F))) ⟨m, fun _ => 0, ρ⟩ (fun r =>
      ∀ c : Dev nD, ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => h)

end Cert.KernelIdeal.KRun

end
-- ==== Proof.Spec.lean ====
/- The mathematics of the problem, written on plain functions of coordinates: what one routed row computes,
   what one attention head computes, and the algebra of extended reals that both programs' readings need. -/
module

public import Idealize.ShloMosaic.PureOps.Ideal
public import Idealize.ShloMosaic.Lib.IdealHost
public import Idealize.ShloMosaic.Lib.Pointwise

@[expose] public section

noncomputable section

namespace Cert.Spec

open Idealize.ShloMosaic
open scoped BigOperators

/-! ## The constants -/

/-- `0.125` is one eighth. -/
theorem ofBits_eighth : Ideal.ofBits .f32 0x3E000000#32 = ((1 / 8 : ℝ) : EReal) := by
  simp [Ideal.ofBits, Ideal.ieee, -EReal.coe_mul]; norm_num

/-- `8.0` is eight. -/
theorem ofBits_eight : Ideal.ofBits .f32 0x41000000#32 = ((8 : ℝ) : EReal) := by
  simp [Ideal.ofBits, Ideal.ieee, -EReal.coe_mul]; norm_num

/-- The pattern of minus infinity is the least extended real. -/
theorem ofBits_negInf : Ideal.ofBits .f32 0xFF800000#32 = ⊥ := by
  simp [Ideal.ofBits, Ideal.ieee]

/-- The pattern of plus infinity is the greatest extended real. -/
theorem ofBits_posInf : Ideal.ofBits .f32 0x7F800000#32 = ⊤ := by
  simp [Ideal.ofBits, Ideal.ieee]

/-- The sparsity threshold, the single-precision number nearest `1e-6`. -/
def eps : EReal := Ideal.ofBits .f32 0x358637BD#32

/-- The threshold is not negative. -/
theorem eps_nonneg : 0 ≤ eps := by
  unfold eps
  simp [Ideal.ofBits, Ideal.ieee, -EReal.coe_mul]

/-- Dividing by eight is multiplying by one eighth. -/
theorem div_eight (x : EReal) : Ideal.div x ((8 : ℝ) : EReal) = x * ((1 / 8 : ℝ) : EReal) :=
  Ideal.div_coe (by norm_num) x

/-! ## One row of the routed experts -/

section Row
variable (x : Fin 64 → EReal) (pr : Fin 8 → Fin 64 → EReal) (g : Fin 8 → EReal)
  (W1 W2 : Fin 8 → Fin 64 → Fin 64 → EReal)

/-- The routing score of expert `p` on a row: the scaled inner product with its prototype, less its gate, cut at zero. -/
def logit (p : Fin 8) : EReal := max ((∑ d : Fin 64, x d * pr p d) * ((1 / 8 : ℝ) : EReal) - g p) 0

/-- The routing weight: the score where it passes the threshold, else zero. -/
def gate (p : Fin 8) : EReal := if eps < logit x pr g p then logit x pr g p else 0

/-- The hidden layer of expert `p`. -/
def hid (p : Fin 8) (e : Fin 64) : EReal := max (∑ d : Fin 64, x d * W1 p d e) 0

/-- The output of expert `p`. -/
def eo (p : Fin 8) (f : Fin 64) : EReal := ∑ e : Fin 64, hid x W1 p e * W2 p e f

/-- The composed row: the experts' outputs weighted and added up. -/
def syn (f : Fin 64) : EReal := ∑ p : Fin 8, eo x W1 W2 p f * gate x pr g p

/-- The norm of expert `p`'s weighted output: its weight times the norm of its output. -/
def raw (p : Fin 8) : EReal := gate x pr g p * Ideal.sqrt (∑ f : Fin 64, eo x W1 W2 p f * eo x W1 W2 p f)

theorem logit_nonneg (p : Fin 8) : 0 ≤ logit x pr g p := le_max_right _ _

theorem gate_nonneg (p : Fin 8) : 0 ≤ gate x pr g p := by
  unfold gate; split
  · exact logit_nonneg x pr g p
  · exact le_rfl

end Row

/-! ## Norms -/

/-- A square is not negative, at the infinities as well. -/
theorem mul_self_nonneg' (a : EReal) : 0 ≤ a * a := by
  induction a using EReal.rec with
  | bot => simp
  | top => simp
  | coe r => exact_mod_cast mul_self_nonneg r

/-- A nonnegative factor moves out of a finite sum of nonnegative terms. -/
theorem mul_sum_nonneg {ι : Type} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- The root of a nonnegative number's square times a nonnegative number, at the infinities as well. -/
theorem sqrt_sq_mul (w s : EReal) (hw : 0 ≤ w) (hs : 0 ≤ s) : Ideal.sqrt (w * w * s) = w * Ideal.sqrt s := by
  induction s using EReal.rec with
  | bot => simp at hs
  | top =>
    rcases hw.lt_or_eq with h | h
    · have hp : (0 : EReal) < w * w := EReal.mul_pos h h
      rw [EReal.mul_top_of_pos hp, Ideal.sqrt_top, EReal.mul_top_of_pos h]
    · subst h
      have : Ideal.sqrt 0 = 0 := by
        have := Ideal.sqrt_coe 0
        simpa using this
      simp [this]
  | coe s =>
    have hs' : (0 : ℝ) ≤ s := by exact_mod_cast hs
    rw [Ideal.sqrt_coe, if_neg (not_lt.2 hs')]
    induction w using EReal.rec with
    | bot => simp at hw
    | top =>
      rcases hs'.lt_or_eq with h | h
      · rw [EReal.top_mul_top, EReal.top_mul_coe_of_pos h, Ideal.sqrt_top,
          EReal.top_mul_coe_of_pos (Real.sqrt_pos.2 h)]
      · subst h
        have : Ideal.sqrt 0 = 0 := by
          have := Ideal.sqrt_coe 0
          simpa using this
        simp [this]
    | coe w =>
      have hw' : (0 : ℝ) ≤ w := by exact_mod_cast hw
      rw [← EReal.coe_mul, ← EReal.coe_mul, Ideal.sqrt_coe, if_neg (not_lt.2 (by positivity)), ← EReal.coe_mul,
        Real.sqrt_mul (by positivity), Real.sqrt_mul_self hw']

/-- The norm of the weighted row is the weight times the norm of the row. -/
theorem sqrt_sum_weighted {n : ℕ} (w : EReal) (hw : 0 ≤ w) (a : Fin n → EReal) :
    Ideal.sqrt (∑ f, a f * w * (a f * w)) = w * Ideal.sqrt (∑ f, a f * a f) := by
  rw [← sqrt_sq_mul w _ hw (Finset.sum_nonneg fun i _ => mul_self_nonneg' (a i)),
    mul_sum_nonneg _ _ _ (fun i _ => mul_self_nonneg' (a i))]
  congr 1
  refine Finset.sum_congr rfl fun f _ => ?_
  ac_rfl

/-! ## Sums over the five hundred and twelve expert columns -/

/-- Column `64 p + f` of the experts' outputs laid side by side. -/
def col (p : Fin 8) (f : Fin 64) : Fin 512 := ⟨64 * p.val + f.val, by omega⟩

theorem col_eq (p : Fin 8) (f : Fin 64) : col p f = (finProdFinEquiv (p, f) : Fin (8 * 64)) :=
  Fin.ext (by simp [col, finProdFinEquiv]; omega)

/-- A sum over the columns is a sum over experts of sums over an expert's columns. -/
theorem sum_col {M : Type*} [AddCommMonoid M] (h : Fin 512 → M) : ∑ j, h j = ∑ p : Fin 8, ∑ f : Fin 64, h (col p f) := by
  rw [← Fintype.sum_prod_type' (f := fun p f => h (col p f))]
  refine (Equiv.sum_comp (finProdFinEquiv : Fin 8 × Fin 64 ≃ Fin (8 * 64)) h).symm.trans ?_
  exact Finset.sum_congr rfl fun q _ => congrArg h (col_eq q.1 q.2).symm

/-- The experts' columns weighted through the column-to-expert table and folded through the column-to-feature table
    are the weighted outputs added up. -/
theorem fold_syn (a : Fin 8 → Fin 64 → EReal) (w : Fin 8 → EReal) (E : Fin 512 → EReal) (fm : Fin 512 → Fin 8 → EReal)
    (em : Fin 512 → Fin 64 → EReal) (hE : ∀ p f, E (col p f) = a p f)
    (hfm : ∀ q f p, fm (col q f) p = if q = p then 1 else 0) (hem : ∀ q f d, em (col q f) d = if f = d then 1 else 0) (d : Fin 64) :
    ∑ j, E j * (∑ p, w p * fm j p) * em j d = ∑ p, a p d * w p := by
  rw [sum_col]
  simp [hE, hfm, hem]

/-- The squares of the columns collected through the column-to-expert table are each expert's sum of squares. -/
theorem fold_raw (a : Fin 8 → Fin 64 → EReal) (E : Fin 512 → EReal) (fm : Fin 512 → Fin 8 → EReal)
    (hE : ∀ p f, E (col p f) = a p f) (hfm : ∀ q f p, fm (col q f) p = if q = p then 1 else 0) (p : Fin 8) :
    ∑ j, fm j p * (E j * E j) = ∑ f, a p f * a p f := by
  rw [sum_col, Finset.sum_comm]
  simp [hE, hfm]

/-! ## One attention head -/

section Head
variable (q k v : Fin 2048 → Fin 64 → EReal)

/-- The masked score of query `t` against key `u`: the scaled inner product, and minus infinity for a later key. -/
def score (t u : Fin 2048) : EReal := if u ≤ t then (∑ d : Fin 64, q t d * k u d) * ((1 / 8 : ℝ) : EReal) else ⊥

/-- The greatest score of query `t`. -/
def top (t : Fin 2048) : EReal := Finset.univ.fold max ⊥ fun u => score q k t u

/-- The exponential weight of key `u` for query `t`. -/
def wt (t u : Fin 2048) : EReal := Ideal.exp (score q k t u - top q k t)

/-- The weights of query `t` added up. -/
def mass (t : Fin 2048) : EReal := ∑ u, wt q k t u

/-- Attention with the weighted values added up first and divided once. -/
def headOnce (t : Fin 2048) (d : Fin 64) : EReal := Ideal.div (∑ u, wt q k t u * v u d) (mass q k t)

/-- Attention with every weight divided first. -/
def headEach (t : Fin 2048) (d : Fin 64) : EReal := ∑ u, Ideal.div (wt q k t u) (mass q k t) * v u d

end Head

/-- A signed comparison of two small numbers chooses by their order. -/
theorem select_sge {α : Type} (t u : Fin 2048) (a b : α) :
    Scalar.select (IntOp.cmpi CmpIPredicate.sge (BitVec.ofNat 32 t.val) (BitVec.ofNat 32 u.val)) a b = if u ≤ t then a else b := by
  have ht := t.isLt
  have hu := u.isLt
  have e1 : (BitVec.ofNat 32 t.val).toInt = t.val := by
    rw [BitVec.toInt_eq_toNat_cond, BitVec.toNat_ofNat]; norm_num; omega
  have e2 : (BitVec.ofNat 32 u.val).toInt = u.val := by
    rw [BitVec.toInt_eq_toNat_cond, BitVec.toNat_ofNat]; norm_num; omega
  by_cases h : u ≤ t
  · have h' : (u.val : Int) ≤ t.val := by exact_mod_cast h
    simp [IntOp.cmpi, Scalar.select, BitVec.sle, e1, e2, h, h']
  · have h' : ¬ (u.val : Int) ≤ t.val := by exact_mod_cast h
    simp [IntOp.cmpi, Scalar.select, BitVec.sle, e1, e2, h, h']

end Cert.Spec

end
-- ==== Proof.Coord.lean ====
/- The two splittings of a flat axis: rows of positions and heads, and columns of heads and features. -/
module

public import proofs.«01_k».proof.Proof.Spec

@[expose] public section

namespace Cert.Spec

/-- The row of head `h` at position `t`. -/
abbrev pos (t : Fin 2048) (h : Fin 12) : Fin 24576 := ⟨t.val * 12 + h.val, by omega⟩

/-- The column of head `h`'s feature `d`. -/
abbrev feat (h : Fin 12) (d : Fin 64) : Fin 768 := ⟨h.val * 64 + d.val, by omega⟩

/-- A column's head. -/
abbrev hd (k : Fin 768) : Fin 12 := ⟨k.val / 64, by omega⟩

/-- A column's feature. -/
abbrev ft (k : Fin 768) : Fin 64 := ⟨k.val % 64, by omega⟩

/-- A column is its head's feature. -/
theorem feat_hd_ft (k : Fin 768) : feat (hd k) (ft k) = k :=
  Fin.ext (by show k.val / 64 * 64 + k.val % 64 = k.val; omega)

/-- Every row is a head's at a position. -/
theorem exists_pos (i : Fin 24576) : ∃ t h, i = pos t h :=
  ⟨⟨i.val / 12, by omega⟩, ⟨i.val % 12, by omega⟩, Fin.ext (by show i.val = i.val / 12 * 12 + i.val % 12; omega)⟩

end Cert.Spec
-- ==== Proof.Host.lean ====
/- The host operations between the launches, read entry by entry. -/
module

public import proofs.«01_k».proof.Proof.Coord
public import proofs.«01_k».proof.Proof.Gen.KernelIdeal.Frame
public import Idealize.ShloMosaic.Lib.StableHlo.Run

@[expose] public section

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen Cert.Spec
open scoped BigOperators

variable (W : Valuation τ sig (Elt Ideal))

/-- The input as rows. -/
theorem v0_eq : (after hostOps0 W (Proc.devRef .tc main_v0) : Vec Ideal S24576x64 .f32)
    = shapeCast S24576x64 (W (Proc.devRef .tc main_arg0) : Vec Ideal S1x2048x768 .f32) shapeCasts_S1x2048x768_S24576x64 := by
  simp only [hostOps0, TRef.binary, TRef.nullary, TRef.ternary, TRef.unary, TRef.toBuf, TRef.ofBuf, cast_eq]; after_results_simp <;> rfl

/-- The first-layer weights, expert by expert along the columns. -/
theorem v2_eq : (after hostOps0 W (Proc.devRef .tc main_v2) : Vec Ideal S64x512 .f32)
    = shapeCast S64x512 (transpose S64x8x64 [1, 0, 2] (W (Proc.devRef .tc main_arg8) : Vec Ideal S8x64x64 .f32) transposes_S8x64x64_S64x8x64_1_0_2) shapeCasts_S64x8x64_S64x512 := by
  simp only [hostOps0, TRef.binary, TRef.nullary, TRef.ternary, TRef.unary, TRef.toBuf, TRef.ofBuf, cast_eq]; after_results_simp <;> rfl

/-- The input's rows by position and head. -/
theorem v0_apply (t : Fin 2048) (h : Fin 12) (d : Fin 64) : (after hostOps0 W (Proc.devRef .tc main_v0) : Vec Ideal S24576x64 .f32) (ix2 (pos t h) d)
    = (W (Proc.devRef .tc main_arg0) : Vec Ideal S1x2048x768 .f32) (ix3 0 t (feat h d)) := by
  rw [v0_eq]
  pointwise []
  refine congrArg _ (congrArg₂ (fun a b => ix3 0 a b) (Fin.ext ?_) (Fin.ext ?_))
  · show (t.val * 12 + h.val) / 12 = t.val
    omega
  · show (t.val * 12 + h.val) % 12 * 64 + d.val = h.val * 64 + d.val
    omega

/-- The first-layer weights by expert and feature. -/
theorem v2_apply (d : Fin 64) (p : Fin 8) (e : Fin 64) : (after hostOps0 W (Proc.devRef .tc main_v2) : Vec Ideal S64x512 .f32) (ix2 d (col p e))
    = (W (Proc.devRef .tc main_arg8) : Vec Ideal S8x64x64 .f32) (ix3 p d e) := by
  rw [v2_eq]
  pointwise []
  refine congrArg _ (congrArg₂ (fun a b => ix3 a d b) (Fin.ext ?_) (Fin.ext ?_))
  · show (64 * p.val + e.val) / 64 = p.val
    omega
  · show (64 * p.val + e.val) % 64 = e.val
    omega

/-- The column numbers. -/
theorem v3_eq : (after hostOps0 W (Proc.devRef .tc main_v3) : IVec S512 32) = iotaInDim S512 32 0 := by
  simp only [hostOps0, TRef.binary, TRef.nullary, TRef.ternary, TRef.unary, TRef.toBuf, TRef.ofBuf, cast_eq]; after_results_simp <;> rfl

/-- The column numbers as a column. -/
theorem v4_apply (j : Fin 512) : (after hostOps0 W (Proc.devRef .tc main_v4) : IVec S512x1 32) (ix2 j 0) = BitVec.ofNat 32 j.val := by
  simp only [hostOps0, TRef.binary, TRef.nullary, TRef.ternary, TRef.unary, TRef.toBuf, TRef.ofBuf, cast_eq]; after_results_simp <;> rfl

/-- The divisor. -/
theorem c_apply (j : S_.Idx) : (after hostOps0 W (Proc.devRef .tc main_c) : IVec S_ 32) j = 64#32 := by
  simp only [hostOps0, TRef.binary, TRef.nullary, TRef.ternary, TRef.unary, TRef.toBuf, TRef.ofBuf, cast_eq]; after_results_simp <;> rfl

/-- A word's sign. -/
def sgn (a : BitVec 32) : BitVec 32 := if a = 0 then 0 else if a.msb then -1 else 1

/-- Floored division of words. -/
def fdiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- Each column's quotient. -/
theorem v5_apply (j : Fin 512) : (after hostOps0_1 W (Proc.devRef .tc main_v5) : IVec S512x1 32) (ix2 j 0)
    = fdiv ((W (Proc.devRef .tc main_v4) : IVec S512x1 32) (ix2 j 0)) ((W (Proc.devRef .tc main_c) : IVec S_ 32) ix0) := by
  simp only [hostOps0_1, TRef.binary, TRef.nullary, TRef.ternary, TRef.unary, TRef.toBuf, TRef.ofBuf, cast_eq]; after_results_simp
  pointwise []
  rfl

/-- The quotients by 64 are the experts. -/
theorem fdiv_64 : ∀ j : Fin 512, fdiv (BitVec.ofNat 32 j.val) 64#32 = BitVec.ofNat 32 (j.val / 64) := by decide +kernel

/-- A comparison's bit as a number. -/
theorem uitofp_eq (a b : BitVec 32) : (FloatOps.uitofp FTy.f32 (IntOp.cmpi .eq a b) : Ideal .f32) = (if a = b then (1 : EReal) else 0) := by
  by_cases h : a = b
  · rw [if_pos h, show IntOp.cmpi .eq a b = 1#1 from by unfold IntOp.cmpi; simp [h]]
    show (((1#1 : BitVec 1).toNat : ℝ) : EReal) = 1
    norm_num
  · rw [if_neg h, show IntOp.cmpi .eq a b = 0#1 from congrArg BitVec.ofBool (beq_eq_false_iff_ne.2 h)]
    show (((0#1 : BitVec 1).toNat : ℝ) : EReal) = 0
    norm_num

/-- The expert's indicator, from the quotients. -/
theorem v11_apply (j : Fin 512) (p : Fin 8) : (after hostOps0_2 W (Proc.devRef .tc main_v11) : Vec Ideal S512x8 .f32) (ix2 j p)
    = if (W (Proc.devRef .tc main_v5) : IVec S512x1 32) (ix2 j 0) = BitVec.ofNat 32 p.val then (1 : EReal) else 0 := by
  simp only [hostOps0_2, TRef.binary, TRef.nullary, TRef.ternary, TRef.unary, TRef.toBuf, TRef.ofBuf, cast_eq]; after_results_simp
  pointwise []
  exact uitofp_eq _ _

/-- The column numbers again. -/
theorem v12_apply (j : Fin 512) : (after hostOps0_2 W (Proc.devRef .tc main_v12) : IVec S512x1 32) (ix2 j 0) = (W (Proc.devRef .tc main_v3) : IVec S512 32) (ix1 j) := by
  simp only [hostOps0_2, TRef.binary, TRef.nullary, TRef.ternary, TRef.unary, TRef.toBuf, TRef.ofBuf, cast_eq]; after_results_simp
  pointwise []

/-- The divisor again. -/
theorem c0_apply (j : S_.Idx) : (after hostOps0_2 W (Proc.devRef .tc main_c_0) : IVec S_ 32) j = 64#32 := by
  simp only [hostOps0_2, TRef.binary, TRef.nullary, TRef.ternary, TRef.unary, TRef.toBuf, TRef.ofBuf, cast_eq]; after_results_simp <;> rfl

/-- The floored remainder of words, a zero divisor replaced by one. -/
def fmod (a b : BitVec 32) : BitVec 32 :=
  Scalar.select (IntOp.andi (IntOp.cmpi .ne (IntOp.cmpi .slt (IntOp.remsi .host a (Scalar.select (IntOp.cmpi .eq b 0#32) 1#32 b)) 0#32)
      (IntOp.cmpi .slt (Scalar.select (IntOp.cmpi .eq b 0#32) 1#32 b) 0#32)) (IntOp.cmpi .ne (IntOp.remsi .host a (Scalar.select (IntOp.cmpi .eq b 0#32) 1#32 b)) 0#32))
    (IntOp.addi (IntOp.remsi .host a (Scalar.select (IntOp.cmpi .eq b 0#32) 1#32 b)) (Scalar.select (IntOp.cmpi .eq b 0#32) 1#32 b))
    (IntOp.remsi .host a (Scalar.select (IntOp.cmpi .eq b 0#32) 1#32 b))

/-- Each column's remainder. -/
theorem v13_apply (j : Fin 512) : (after hostOps0_3 W (Proc.devRef .tc main_v13) : IVec S512x1 32) (ix2 j 0)
    = fmod ((W (Proc.devRef .tc main_v12) : IVec S512x1 32) (ix2 j 0)) ((W (Proc.devRef .tc main_c_0) : IVec S_ 32) ix0) := by
  simp only [hostOps0_3, TRef.binary, TRef.nullary, TRef.ternary, TRef.unary, TRef.toBuf, TRef.ofBuf, cast_eq]; after_results_simp
  pointwise []
  rfl

/-- The remainders by 64 are the features. -/
theorem fmod_64 : ∀ j : Fin 512, fmod (BitVec.ofNat 32 j.val) 64#32 = BitVec.ofNat 32 (j.val % 64) := by decide +kernel

/-- The feature's indicator, from the remainders. -/
theorem v19_apply (j : Fin 512) (d : Fin 64) : (after hostOps0_4 W (Proc.devRef .tc main_v19) : Vec Ideal S512x64 .f32) (ix2 j d)
    = if (W (Proc.devRef .tc main_v13) : IVec S512x1 32) (ix2 j 0) = BitVec.ofNat 32 d.val then (1 : EReal) else 0 := by
  simp only [hostOps0_4, TRef.binary, TRef.nullary, TRef.ternary, TRef.unary, TRef.toBuf, TRef.ofBuf, cast_eq]; after_results_simp
  pointwise []
  exact uitofp_eq _ _

/-- The `q` gates as a column. -/
theorem v20_apply (p : Fin 8) : (after hostOps0_4 W (Proc.devRef .tc main_v20) : Vec Ideal S8x1 .f32) (ix2 p 0) = (W (Proc.devRef .tc main_arg3) : Vec Ideal S8 .f32) (ix1 p) := by
  simp only [hostOps0_4, TRef.binary, TRef.nullary, TRef.ternary, TRef.unary, TRef.toBuf, TRef.ofBuf, cast_eq]; after_results_simp
  pointwise []

/-- The `k` gates as a column. -/
theorem v21_apply (p : Fin 8) : (after hostOps0_4 W (Proc.devRef .tc main_v21) : Vec Ideal S8x1 .f32) (ix2 p 0) = (W (Proc.devRef .tc main_arg5) : Vec Ideal S8 .f32) (ix1 p) := by
  simp only [hostOps0_4, TRef.binary, TRef.nullary, TRef.ternary, TRef.unary, TRef.toBuf, TRef.ofBuf, cast_eq]; after_results_simp
  pointwise []

/-- The `v` gates as a column. -/
theorem v22_apply (p : Fin 8) : (after hostOps0_4 W (Proc.devRef .tc main_v22) : Vec Ideal S8x1 .f32) (ix2 p 0) = (W (Proc.devRef .tc main_arg7) : Vec Ideal S8 .f32) (ix1 p) := by
  simp only [hostOps0_4, TRef.binary, TRef.nullary, TRef.ternary, TRef.unary, TRef.toBuf, TRef.ofBuf, cast_eq]; after_results_simp
  pointwise []

/-- The query heads, of the composed rows. -/
theorem v25_apply (h : Fin 12) (t : Fin 2048) (d : Fin 64) :
    (after hostOps1 W (Proc.devRef .tc main_v25) : Vec Ideal S12x2048x64 .f32) (ix3 h t d) = (W (Proc.devRef .tc main_v23_0) : Vec Ideal S24576x64 .f32) (ix2 (pos t h) d) := by
  simp only [hostOps1, TRef.binary, TRef.nullary, TRef.ternary, TRef.unary, TRef.toBuf, TRef.ofBuf, cast_eq]; after_results_simp
  pointwise []

/-- The key heads, of the composed rows. -/
theorem v27_apply (h : Fin 12) (t : Fin 2048) (d : Fin 64) :
    (after hostOps1 W (Proc.devRef .tc main_v27) : Vec Ideal S12x2048x64 .f32) (ix3 h t d) = (W (Proc.devRef .tc main_v23_1) : Vec Ideal S24576x64 .f32) (ix2 (pos t h) d) := by
  simp only [hostOps1, TRef.binary, TRef.nullary, TRef.ternary, TRef.unary, TRef.toBuf, TRef.ofBuf, cast_eq]; after_results_simp
  pointwise []

/-- The value heads, of the composed rows. -/
theorem v29_apply (h : Fin 12) (t : Fin 2048) (d : Fin 64) :
    (after hostOps1 W (Proc.devRef .tc main_v29) : Vec Ideal S12x2048x64 .f32) (ix3 h t d) = (W (Proc.devRef .tc main_v23_2) : Vec Ideal S24576x64 .f32) (ix2 (pos t h) d) := by
  simp only [hostOps1, TRef.binary, TRef.nullary, TRef.ternary, TRef.unary, TRef.toBuf, TRef.ofBuf, cast_eq]; after_results_simp
  pointwise []

/-- The heads side by side. -/
theorem v32_apply (t : Fin 2048) (h : Fin 12) (d : Fin 64) :
    (after hostOps2 W (Proc.devRef .tc main_v32) : Vec Ideal S2048x768 .f32) (ix2 t (feat h d)) = (W (Proc.devRef .tc main_v30) : Vec Ideal S12x2048x64 .f32) (ix3 h t d) := by
  simp only [hostOps2, TRef.binary, TRef.nullary, TRef.ternary, TRef.unary, TRef.toBuf, TRef.ofBuf, cast_eq]; after_results_simp
  pointwise []
  refine congrArg _ (congrArg₂ (fun a b => ix3 a t b) (Fin.ext ?_) (Fin.ext ?_))
  · show (h.val * 64 + d.val) / 64 = h.val
    omega
  · show (h.val * 64 + d.val) % 64 = d.val
    omega

/-- The output, with its leading axis. -/
theorem v34_apply (t : Fin 2048) (o : Fin 768) :
    (after hostOps3 W (Proc.devRef .tc main_v34) : Vec Ideal S1x2048x768 .f32) (ix3 0 t o) = (W (Proc.devRef .tc main_v33) : Vec Ideal S2048x768 .f32) (ix2 t o) := by
  simp only [hostOps3, TRef.binary, TRef.nullary, TRef.ternary, TRef.unary, TRef.toBuf, TRef.ofBuf, cast_eq]; after_results_simp
  pointwise []

/-- The `q` logits, position by position. -/
theorem v36_apply (t : Fin 2048) (h : Fin 12) (p : Fin 8) :
    (after hostOps3 W (Proc.devRef .tc main_v36) : Vec Ideal S1x2048x12x8 .f32) (ix4 0 t h p) = (W (Proc.devRef .tc main_v23_3) : Vec Ideal S8x24576 .f32) (ix2 p (pos t h)) := by
  simp only [hostOps3, TRef.binary, TRef.nullary, TRef.ternary, TRef.unary, TRef.toBuf, TRef.ofBuf, cast_eq]; after_results_simp
  pointwise []

/-- The `k` logits, position by position. -/
theorem v38_apply (t : Fin 2048) (h : Fin 12) (p : Fin 8) :
    (after hostOps3 W (Proc.devRef .tc main_v38) : Vec Ideal S1x2048x12x8 .f32) (ix4 0 t h p) = (W (Proc.devRef .tc main_v23_4) : Vec Ideal S8x24576 .f32) (ix2 p (pos t h)) := by
  simp only [hostOps3, TRef.binary, TRef.nullary, TRef.ternary, TRef.unary, TRef.toBuf, TRef.ofBuf, cast_eq]; after_results_simp
  pointwise []

/-- The `v` logits, position by position. -/
theorem v40_apply (t : Fin 2048) (h : Fin 12) (p : Fin 8) :
    (after hostOps3 W (Proc.devRef .tc main_v40) : Vec Ideal S1x2048x12x8 .f32) (ix4 0 t h p) = (W (Proc.devRef .tc main_v23_5) : Vec Ideal S8x24576 .f32) (ix2 p (pos t h)) := by
  simp only [hostOps3, TRef.binary, TRef.nullary, TRef.ternary, TRef.unary, TRef.toBuf, TRef.ofBuf, cast_eq]; after_results_simp
  pointwise []

/-- The `q` strengths, row by row. -/
theorem v41_apply (i : Fin 24576) (p : Fin 8) :
    (after hostOps3 W (Proc.devRef .tc main_v41) : Vec Ideal S24576x8 .f32) (ix2 i p) = (W (Proc.devRef .tc main_v23_6) : Vec Ideal S8x24576 .f32) (ix2 p i) := by
  simp only [hostOps3, TRef.binary, TRef.nullary, TRef.ternary, TRef.unary, TRef.toBuf, TRef.ofBuf, cast_eq]; after_results_simp
  pointwise []

/-- The `k` strengths, row by row. -/
theorem v42_apply (i : Fin 24576) (p : Fin 8) :
    (after hostOps3 W (Proc.devRef .tc main_v42) : Vec Ideal S24576x8 .f32) (ix2 i p) = (W (Proc.devRef .tc main_v23_7) : Vec Ideal S8x24576 .f32) (ix2 p i) := by
  simp only [hostOps3, TRef.binary, TRef.nullary, TRef.ternary, TRef.unary, TRef.toBuf, TRef.ofBuf, cast_eq]; after_results_simp
  pointwise []

/-- The `v` strengths, row by row. -/
theorem v43_apply (i : Fin 24576) (p : Fin 8) :
    (after hostOps3 W (Proc.devRef .tc main_v43) : Vec Ideal S24576x8 .f32) (ix2 i p) = (W (Proc.devRef .tc main_v23_8) : Vec Ideal S8x24576 .f32) (ix2 p i) := by
  simp only [hostOps3, TRef.binary, TRef.nullary, TRef.ternary, TRef.unary, TRef.toBuf, TRef.ofBuf, cast_eq]; after_results_simp
  pointwise []

end Cert.KernelIdeal.HostRead
-- ==== Proof.Body0.lean ====
/- What one point of the routing launch computes: its nine output blocks, row by row, as the routed-expert
   functions of the specification. -/
module

public import proofs.«01_k».proof.Proof.Spec
public import proofs.«01_k».proof.Proof.Gen.KernelIdeal.Frame

@[expose] public section

set_option maxRecDepth 16384

noncomputable section

namespace Cert.KernelIdeal.Body0

open Idealize.ShloMosaic Cert.KernelIdeal Cert.KernelIdeal.Gen Cert.Spec
open scoped BigOperators

/-- A prototype block by coordinates. -/
abbrev proto (w : Vec Ideal S8x64 .f32) (p : Fin 8) (d : Fin 64) : EReal := w (ix2 p d)

/-- A gate block by coordinates. -/
abbrev gates (g : Vec Ideal S8x1 .f32) (p : Fin 8) : EReal := g (ix2 p 0)

/-- A row of a block of input rows. -/
abbrev row (x : Vec Ideal S3072x64 .f32) (r : Fin 3072) (d : Fin 64) : EReal := x (ix2 r d)

/-- The second-layer weights by coordinates. -/
abbrev wts (W : Vec Ideal S8x64x64 .f32) (p : Fin 8) (e f : Fin 64) : EReal := W (ix3 p e f)

/-- The score block is the routing score of each row. -/
theorem log_apply (v1 : Vec Ideal S3072x64 .f32) (w : Vec Ideal S8x64 .f32) (g : Vec Ideal S8x1 .f32) (p : Fin 8) (r : Fin 3072) :
    k0_pay17 v1 w g (ix2 p r) = logit (row v1 r) (proto w) (gates g) p := by
  pointwise [k0_pay17]
  rw [ofBits_eighth]
  unfold logit
  congr 3
  exact Finset.sum_congr rfl fun d _ => mul_comm _ _

/-- The weight block is the routing weight of each row. -/
theorem gate_apply (v1 : Vec Ideal S3072x64 .f32) (w : Vec Ideal S8x64 .f32) (g : Vec Ideal S8x1 .f32) (p : Fin 8) (r : Fin 3072) :
    k0_pay22 v1 w g (ix2 p r) = gate (row v1 r) (proto w) (gates g) p := by
  have h : k0_pay21 v1 w g (ix2 p r) = logit (row v1 r) (proto w) (gates g) p := log_apply v1 w g p r
  pointwise [k0_pay22]
  rw [h]
  rfl

/-- The composed block, from the experts' columns and the two tables. -/
theorem syn_apply (v1 : Vec Ideal S3072x64 .f32) (v3 : Vec Ideal S512x8 .f32) (v5 : Vec Ideal S512x64 .f32)
    (v43 : Vec Ideal S3072x512 .f32) (w : Vec Ideal S8x64 .f32) (g : Vec Ideal S8x1 .f32) (r : Fin 3072) (d : Fin 64) :
    k0_pay23 v1 v3 v5 v43 w g (ix2 r d)
      = ∑ j, v43 (ix2 r j) * (∑ p, gate (row v1 r) (proto w) (gates g) p * v3 (ix2 j p)) * v5 (ix2 j d) := by
  pointwise [k0_pay23]
  simp only [gate_apply]

/-- The hidden columns of the eight experts. -/
theorem hid_apply (x0 : Vec Ideal S3072x64 .f32) (x1 : Vec Ideal S64x512 .f32)
    (W1 : Fin 8 → Fin 64 → Fin 64 → EReal) (h1 : ∀ d p e, x1 (ix2 d (col p e)) = W1 p d e) (r : Fin 3072) (p : Fin 8) (e : Fin 64) :
    k0_pay8 (View.ld x0 r0_0) (View.ld x1 r0_3) (ix2 r (col p e)) = hid (row x0 r) W1 p e := by
  pointwise [k0_pay8, k0_pay5, r0_0, r0_3]
  simp only [h1]
  rfl

/-- Column `64 p + f` of the experts' outputs is coordinate `f` of expert `p`'s output. -/
theorem eo_apply (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e) (r : Fin 3072) (p : Fin 8) (f : Fin 64) :
    k0_pay37 x0 x1 x2 x3 x4 x5 x6 x7 x8 x9 x10 (ix2 r (col p f)) = eo (row x0 r) W1 (wts x2) p f := by
  have hh : ∀ e, hid (row x0 r) W1 p e = k0_pay8 (View.ld x0 r0_0) (View.ld x1 r0_3) (ix2 r (col p e)) :=
    fun e => (hid_apply x0 x1 W1 h1 r p e).symm
  unfold eo
  simp only [hh]
  clear hh h1 W1
  unfold k0_pay37 k0_pay36 k0_pay35 k0_pay34 k0_pay33 k0_pay32 k0_pay31 k0_pay30
  pointwise [k0_pay15, k0_pay9, k0_pay10, k0_pay11, k0_pay12, k0_pay13, k0_pay14, r0_4, r0_5, r0_6, r0_7, r0_8, r0_9, r0_10, r0_11, r0_0, r0_3]
  generalize k0_pay8 (F := Ideal) _ _ = H
  have hc : (col p f).val = 64 * p.val + f.val := rfl
  have hf := f.isLt
  have h8 : p = 0 ∨ p = 1 ∨ p = 2 ∨ p = 3 ∨ p = 4 ∨ p = 5 ∨ p = 6 ∨ p = 7 := by
    have : ∀ p : Fin 8, p = 0 ∨ p = 1 ∨ p = 2 ∨ p = 3 ∨ p = 4 ∨ p = 5 ∨ p = 6 ∨ p = 7 := by decide
    exact this p
  rcases h8 with rfl | rfl | rfl | rfl | rfl | rfl | rfl | rfl
  · have hc : (col 0 f).val = 0 + f.val := hc
    rw [dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 1 f).val = 64 + f.val := hc
    rw [dif_neg (by omega), dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 2 f).val = 128 + f.val := hc
    rw [dif_neg (by omega), dif_neg (by omega), dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 3 f).val = 192 + f.val := hc
    rw [dif_neg (by omega), dif_neg (by omega), dif_neg (by omega), dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 4 f).val = 256 + f.val := hc
    rw [dif_neg (by omega), dif_neg (by omega), dif_neg (by omega), dif_neg (by omega), dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 5 f).val = 320 + f.val := hc
    rw [dif_neg (by omega), dif_neg (by omega), dif_neg (by omega), dif_neg (by omega), dif_neg (by omega), dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 6 f).val = 384 + f.val := hc
    rw [dif_neg (by omega), dif_neg (by omega), dif_neg (by omega), dif_neg (by omega), dif_neg (by omega), dif_neg (by omega), dif_pos (by omega)]
    exact Finset.sum_congr rfl fun x _ => congr (congrArg _ (congrArg (fun j => H (ix2 r j)) (Fin.ext (by simp [col]))))
      (congrArg (fun j => x2 (ix3 _ x j)) (Fin.ext (by simp only []; omega)))
  · have hc : (col 7 f).val = 448 + f.val := hc
    rw [dif_neg (by omega), dif_neg (by omega), dif_neg (by omega), dif_neg (by omega), dif_neg (by omega), dif_neg (by omega), dif_neg (by omega)]
    exact Finset.sum_congr rfl fun x _ => congr (congrArg _ (congrArg (fun j => H (ix2 r j)) (Fin.ext (by simp [col]))))
      (congrArg (fun j => x2 (ix3 _ x j)) (Fin.ext (by simp only []; omega)))

/-- The norm block, from the experts' columns and the column-to-expert table. -/
theorem nrm_apply (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32) (r : Fin 3072) (p : Fin 8) :
    k0_pay38 x0 x1 x2 x3 x4 x5 x6 x7 x8 x9 x10 (ix2 p r)
      = Ideal.sqrt (∑ j, x3 (ix2 j p) * (k0_pay37 x0 x1 x2 x3 x4 x5 x6 x7 x8 x9 x10 (ix2 r j) * k0_pay37 x0 x1 x2 x3 x4 x5 x6 x7 x8 x9 x10 (ix2 r j))) := by
  have : k0_pay38 x0 x1 x2 x3 x4 x5 x6 x7 x8 x9 x10 = fun j => Ideal.sqrt (matmul dot_S512x8_S3072x512_S8x3072_0_1_1_0_n_n none
      (k0_pay28 x0 x1 x2 x3 x4 x5 x6 x7 x8 x9 x10) (mulf (k0_pay37 x0 x1 x2 x3 x4 x5 x6 x7 x8 x9 x10) (k0_pay37 x0 x1 x2 x3 x4 x5 x6 x7 x8 x9 x10))
      (constant S8x3072 .f32 0x00000000#32) j) := rfl
  rw [this]
  generalize k0_pay37 x0 x1 x2 x3 x4 x5 x6 x7 x8 x9 x10 = E
  pointwise [k0_pay28, k0_pay6, r0_1]

/-- The input block after its identity reshape is the block. -/
theorem row_pay27 (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32) (r : Fin 3072) :
    row (k0_pay27 x0 x1 x2 x3 x4 x5 x6 x7 x8 x9 x10) r = row x0 r := by
  funext d
  unfold row
  pointwise [k0_pay27, k0_pay5, r0_0]

/-- The column-to-expert table is read whole. -/
theorem pay28_apply (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32) (j : Fin 512) (p : Fin 8) :
    k0_pay28 x0 x1 x2 x3 x4 x5 x6 x7 x8 x9 x10 (ix2 j p) = x3 (ix2 j p) := by
  pointwise [k0_pay28, k0_pay6, r0_1]

/-- The column-to-feature table is read whole. -/
theorem pay29_apply (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32) (j : Fin 512) (d : Fin 64) :
    k0_pay29 x0 x1 x2 x3 x4 x5 x6 x7 x8 x9 x10 (ix2 j d) = x4 (ix2 j d) := by
  pointwise [k0_pay29, k0_pay7, r0_2]

/-- A prototype block is read whole. -/
theorem proto_ld (w : Vec Ideal S8x64 .f32) : proto (View.ld w r0_12) = proto w := by
  funext p d; unfold proto; pointwise [r0_12]

/-- A gate block is read whole. -/
theorem gates_ld (g : Vec Ideal S8x1 .f32) : gates (View.ld g r0_13) = gates g := by
  funext p; unfold gates; pointwise [r0_13]

/-- The two zero offsets are zero everywhere. -/
theorem zeros2 : (![0, 0] : Fin 2 → Nat) = fun _ => 0 := by
  funext a; fin_cases a <;> rfl

/-- A single whole store leaves its payload. -/
theorem canon_rows (P : Vec Ideal S3072x64 .f32) : View.canon (Val := Elt Ideal) [⟨r0_0, P⟩] = P :=
  View.canon_unit_zero zeros2 _ P

/-- A single whole store leaves its payload. -/
theorem canon_cols (P : Vec Ideal S8x3072 .f32) : View.canon (Val := Elt Ideal) [⟨r0_14, P⟩] = P :=
  View.canon_unit_zero zeros2 _ P

/-- The composed rows of the `q` routing. -/
theorem out_syn_q (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e)
    (hfm : ∀ q f p, x3 (ix2 (col q f) p) = if q = p then 1 else 0) (hem : ∀ q f d, x4 (ix2 (col q f) d) = if f = d then 1 else 0)
    (r : Fin 3072) (d : Fin 64) :
    out0_11 x0 x1 x2 x3 x4 x5 x6 x7 x8 x9 x10 (ix2 r d) = syn (row x0 r) (proto x5) (gates x6) W1 (wts x2) d := by
  have h : out0_11 x0 x1 x2 x3 x4 x5 x6 x7 x8 x9 x10 = View.canon (Val := Elt Ideal) [⟨r0_0, k0_pay23 (k0_pay27 x0 x1 x2 x3 x4 x5 x6 x7 x8 x9 x10) (k0_pay28 x0 x1 x2 x3 x4 x5 x6 x7 x8 x9 x10) (k0_pay29 x0 x1 x2 x3 x4 x5 x6 x7 x8 x9 x10)
      (k0_pay37 x0 x1 x2 x3 x4 x5 x6 x7 x8 x9 x10) (View.ld x5 r0_12) (View.ld x6 r0_13)⟩] := rfl
  rw [h, canon_rows, syn_apply]
  simp only [row_pay27, pay28_apply, pay29_apply, proto_ld, gates_ld]
  exact fold_syn _ _ (fun j => k0_pay37 x0 x1 x2 x3 x4 x5 x6 x7 x8 x9 x10 (ix2 r j)) (fun j p => x3 (ix2 j p)) (fun j d => x4 (ix2 j d))
    (fun p f => eo_apply x0 x1 x2 x3 x4 x5 x6 x7 x8 x9 x10 W1 h1 r p f) hfm hem d

/-- The scores of the `q` routing. -/
theorem out_log_q (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (p : Fin 8) (r : Fin 3072) :
    out0_14 x0 x1 x2 x3 x4 x5 x6 x7 x8 x9 x10 (ix2 p r) = logit (row x0 r) (proto x5) (gates x6) p := by
  have h : out0_14 x0 x1 x2 x3 x4 x5 x6 x7 x8 x9 x10 = View.canon (Val := Elt Ideal) [⟨r0_14, k0_pay17 (k0_pay27 x0 x1 x2 x3 x4 x5 x6 x7 x8 x9 x10) (View.ld x5 r0_12) (View.ld x6 r0_13)⟩] := rfl
  rw [h, canon_cols, log_apply, row_pay27, proto_ld, gates_ld]

/-- The norms of the `q` routing. -/
theorem out_raw_q (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e)
    (hfm : ∀ q f p, x3 (ix2 (col q f) p) = if q = p then 1 else 0)
    (p : Fin 8) (r : Fin 3072) :
    out0_17 x0 x1 x2 x3 x4 x5 x6 x7 x8 x9 x10 (ix2 p r) = raw (row x0 r) (proto x5) (gates x6) W1 (wts x2) p := by
  have h : out0_17 x0 x1 x2 x3 x4 x5 x6 x7 x8 x9 x10 = View.canon (Val := Elt Ideal) [⟨r0_14, fun j => k0_pay22 (k0_pay27 x0 x1 x2 x3 x4 x5 x6 x7 x8 x9 x10) (View.ld x5 r0_12) (View.ld x6 r0_13) j
      * k0_pay38 x0 x1 x2 x3 x4 x5 x6 x7 x8 x9 x10 j⟩] := rfl
  rw [h, canon_cols, gate_apply, nrm_apply, row_pay27, proto_ld, gates_ld]
  unfold raw
  rw [fold_raw _ (fun j => k0_pay37 x0 x1 x2 x3 x4 x5 x6 x7 x8 x9 x10 (ix2 r j)) (fun j p => x3 (ix2 j p)) (fun p f => eo_apply x0 x1 x2 x3 x4 x5 x6 x7 x8 x9 x10 W1 h1 r p f) hfm p]

/-- The composed rows of the `k` routing. -/
theorem out_syn_k (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e)
    (hfm : ∀ q f p, x3 (ix2 (col q f) p) = if q = p then 1 else 0) (hem : ∀ q f d, x4 (ix2 (col q f) d) = if f = d then 1 else 0)
    (r : Fin 3072) (d : Fin 64) :
    out0_12 x0 x1 x2 x3 x4 x5 x6 x7 x8 x9 x10 (ix2 r d) = syn (row x0 r) (proto x7) (gates x8) W1 (wts x2) d := by
  have h : out0_12 x0 x1 x2 x3 x4 x5 x6 x7 x8 x9 x10 = View.canon (Val := Elt Ideal) [⟨r0_0, k0_pay23 (k0_pay27 x0 x1 x2 x3 x4 x5 x6 x7 x8 x9 x10) (k0_pay28 x0 x1 x2 x3 x4 x5 x6 x7 x8 x9 x10) (k0_pay29 x0 x1 x2 x3 x4 x5 x6 x7 x8 x9 x10)
      (k0_pay37 x0 x1 x2 x3 x4 x5 x6 x7 x8 x9 x10) (View.ld x7 r0_12) (View.ld x8 r0_13)⟩] := rfl
  rw [h, canon_rows, syn_apply]
  simp only [row_pay27, pay28_apply, pay29_apply, proto_ld, gates_ld]
  exact fold_syn _ _ (fun j => k0_pay37 x0 x1 x2 x3 x4 x5 x6 x7 x8 x9 x10 (ix2 r j)) (fun j p => x3 (ix2 j p)) (fun j d => x4 (ix2 j d))
    (fun p f => eo_apply x0 x1 x2 x3 x4 x5 x6 x7 x8 x9 x10 W1 h1 r p f) hfm hem d

/-- The scores of the `k` routing. -/
theorem out_log_k (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (p : Fin 8) (r : Fin 3072) :
    out0_15 x0 x1 x2 x3 x4 x5 x6 x7 x8 x9 x10 (ix2 p r) = logit (row x0 r) (proto x7) (gates x8) p := by
  have h : out0_15 x0 x1 x2 x3 x4 x5 x6 x7 x8 x9 x10 = View.canon (Val := Elt Ideal) [⟨r0_14, k0_pay17 (k0_pay27 x0 x1 x2 x3 x4 x5 x6 x7 x8 x9 x10) (View.ld x7 r0_12) (View.ld x8 r0_13)⟩] := rfl
  rw [h, canon_cols, log_apply, row_pay27, proto_ld, gates_ld]

/-- The norms of the `k` routing. -/
theorem out_raw_k (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e)
    (hfm : ∀ q f p, x3 (ix2 (col q f) p) = if q = p then 1 else 0)
    (p : Fin 8) (r : Fin 3072) :
    out0_18 x0 x1 x2 x3 x4 x5 x6 x7 x8 x9 x10 (ix2 p r) = raw (row x0 r) (proto x7) (gates x8) W1 (wts x2) p := by
  have h : out0_18 x0 x1 x2 x3 x4 x5 x6 x7 x8 x9 x10 = View.canon (Val := Elt Ideal) [⟨r0_14, fun j => k0_pay22 (k0_pay27 x0 x1 x2 x3 x4 x5 x6 x7 x8 x9 x10) (View.ld x7 r0_12) (View.ld x8 r0_13) j
      * k0_pay38 x0 x1 x2 x3 x4 x5 x6 x7 x8 x9 x10 j⟩] := rfl
  rw [h, canon_cols, gate_apply, nrm_apply, row_pay27, proto_ld, gates_ld]
  unfold raw
  rw [fold_raw _ (fun j => k0_pay37 x0 x1 x2 x3 x4 x5 x6 x7 x8 x9 x10 (ix2 r j)) (fun j p => x3 (ix2 j p)) (fun p f => eo_apply x0 x1 x2 x3 x4 x5 x6 x7 x8 x9 x10 W1 h1 r p f) hfm p]

/-- The composed rows of the `v` routing. -/
theorem out_syn_v (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e)
    (hfm : ∀ q f p, x3 (ix2 (col q f) p) = if q = p then 1 else 0) (hem : ∀ q f d, x4 (ix2 (col q f) d) = if f = d then 1 else 0)
    (r : Fin 3072) (d : Fin 64) :
    out0_13 x0 x1 x2 x3 x4 x5 x6 x7 x8 x9 x10 (ix2 r d) = syn (row x0 r) (proto x9) (gates x10) W1 (wts x2) d := by
  have h : out0_13 x0 x1 x2 x3 x4 x5 x6 x7 x8 x9 x10 = View.canon (Val := Elt Ideal) [⟨r0_0, k0_pay23 (k0_pay27 x0 x1 x2 x3 x4 x5 x6 x7 x8 x9 x10) (k0_pay28 x0 x1 x2 x3 x4 x5 x6 x7 x8 x9 x10) (k0_pay29 x0 x1 x2 x3 x4 x5 x6 x7 x8 x9 x10)
      (k0_pay37 x0 x1 x2 x3 x4 x5 x6 x7 x8 x9 x10) (View.ld x9 r0_12) (View.ld x10 r0_13)⟩] := rfl
  rw [h, canon_rows, syn_apply]
  simp only [row_pay27, pay28_apply, pay29_apply, proto_ld, gates_ld]
  exact fold_syn _ _ (fun j => k0_pay37 x0 x1 x2 x3 x4 x5 x6 x7 x8 x9 x10 (ix2 r j)) (fun j p => x3 (ix2 j p)) (fun j d => x4 (ix2 j d))
    (fun p f => eo_apply x0 x1 x2 x3 x4 x5 x6 x7 x8 x9 x10 W1 h1 r p f) hfm hem d

/-- The scores of the `v` routing. -/
theorem out_log_v (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (p : Fin 8) (r : Fin 3072) :
    out0_16 x0 x1 x2 x3 x4 x5 x6 x7 x8 x9 x10 (ix2 p r) = logit (row x0 r) (proto x9) (gates x10) p := by
  have h : out0_16 x0 x1 x2 x3 x4 x5 x6 x7 x8 x9 x10 = View.canon (Val := Elt Ideal) [⟨r0_14, k0_pay17 (k0_pay27 x0 x1 x2 x3 x4 x5 x6 x7 x8 x9 x10) (View.ld x9 r0_12) (View.ld x10 r0_13)⟩] := rfl
  rw [h, canon_cols, log_apply, row_pay27, proto_ld, gates_ld]

/-- The norms of the `v` routing. -/
theorem out_raw_v (x0 : Vec Ideal S3072x64 .f32) (x1 : Vec Ideal S64x512 .f32) (x2 : Vec Ideal S8x64x64 .f32)
  (x3 : Vec Ideal S512x8 .f32) (x4 : Vec Ideal S512x64 .f32) (x5 : Vec Ideal S8x64 .f32) (x6 : Vec Ideal S8x1 .f32)
  (x7 : Vec Ideal S8x64 .f32) (x8 : Vec Ideal S8x1 .f32) (x9 : Vec Ideal S8x64 .f32) (x10 : Vec Ideal S8x1 .f32)
    (W1 : Fin 8 → Fin 64 → Fin 64 → EReal) (h1 : ∀ d p e, x1 (ix2 d (col p e)) = W1 p d e)
    (hfm : ∀ q f p, x3 (ix2 (col q f) p) = if q = p then 1 else 0)
    (p : Fin 8) (r : Fin 3072) :
    out0_19 x0 x1 x2 x3 x4 x5 x6 x7 x8 x9 x10 (ix2 p r) = raw (row x0 r) (proto x9) (gates x10) W1 (wts x2) p := by
  have h : out0_19 x0 x1 x2 x3 x4 x5 x6 x7 x8 x9 x10 = View.canon (Val := Elt Ideal) [⟨r0_14, fun j => k0_pay22 (k0_pay27 x0 x1 x2 x3 x4 x5 x6 x7 x8 x9 x10) (View.ld x9 r0_12) (View.ld x10 r0_13) j
      * k0_pay38 x0 x1 x2 x3 x4 x5 x6 x7 x8 x9 x10 j⟩] := rfl
  rw [h, canon_cols, gate_apply, nrm_apply, row_pay27, proto_ld, gates_ld]
  unfold raw
  rw [fold_raw _ (fun j => k0_pay37 x0 x1 x2 x3 x4 x5 x6 x7 x8 x9 x10 (ix2 r j)) (fun j p => x3 (ix2 j p)) (fun p f => eo_apply x0 x1 x2 x3 x4 x5 x6 x7 x8 x9 x10 W1 h1 r p f) hfm p]

end Cert.KernelIdeal.Body0

end
-- ==== Proof.Arr0.lean ====
/- What the nine arrays the routing launch writes hold when it is over, as the routed-expert functions of the
   arrays it reads. -/
module

public import proofs.«01_k».proof.Proof.Body0
public import Idealize.ShloMosaic.Lib.Pipeline.Value
public import Idealize.ShloMosaic.Lib.Pipeline.ValueKit

@[expose] public section

set_option maxRecDepth 16384

noncomputable section

namespace Cert.KernelIdeal.Arr0

open Idealize.ShloMosaic Idealize.ShloMosaic.TcCoe Idealize.SL.Sem
open Idealize.ShloMosaic.Pipeline (Dat Cfg Window)
open Cert.KernelIdeal Cert.KernelIdeal.Gen Cert.Spec Cert.KernelIdeal.Body0
open scoped BigOperators

variable (V : (c : Dev nD) → (b : Ref sig .tc) → Buf (Elt Ideal) ((c : Thread nD τ).loc b)) (c : Dev nD)

/-! ## The blocks read -/

/-- The input rows' block at point `t` starts at row `3072 t`. -/
theorem idx_0 : ∀ t : Fin grid0.N, win0_0.index t 0 = t.val ∧ win0_0.index t 1 = 0 := by decide +kernel

/-- The input rows' block, read. -/
theorem blk_0 (t : Fin cfg0.N) (r : Fin 3072) (d : Fin 64) (i : Fin 24576) (hi : i.val = t.val * 3072 + r.val) :
    (iblk0 V c 0 t : Vec Ideal S3072x64 .f32) (ix2 r d) = (V c main_v0 : Vec Ideal S24576x64 .f32) (ix2 i d) := by
  show (V c main_v0 : Vec Ideal S24576x64 .f32) ((win0_0.rect t).emb (ix2 r d)) = _
  refine congrArg _ (funext (Fin.forall_fin_two.2 ⟨Fin.ext ?_, Fin.ext ?_⟩))
  · refine (Window.rect_emb_val win0_0 t (ix2 r d) 0).trans ?_
    rw [(idx_0 t).1]; exact hi.symm
  · refine (Window.rect_emb_val win0_0 t (ix2 r d) 1).trans ?_
    rw [(idx_0 t).2]; exact Nat.zero_add _

/-- The input rows' block's row. -/
theorem row_0 (t : Fin cfg0.N) (r : Fin 3072) (i : Fin 24576) (hi : i.val = t.val * 3072 + r.val) :
    row (iblk0 V c 0 t : Vec Ideal S3072x64 .f32) r = fun d => (V c main_v0 : Vec Ideal S24576x64 .f32) (ix2 i d) :=
  funext fun d => blk_0 V c t r d i hi

/-- Operand 1 is one block. -/
theorem idx_1 : ∀ (t : Fin grid0.N) (a : Fin 2), win0_1.index t a = 0 := by decide +kernel

/-- Operand 1's block is the array. -/
theorem blk_1 (t : Fin cfg0.N) : (iblk0 V c 1 t : Vec Ideal S64x512 .f32) = V c main_v2 :=
  funext fun y => congrArg (V c main_v2 : Vec Ideal S64x512 .f32) (funext fun a =>
    Fin.ext (Window.rect_emb_val_of_index_zero win0_1 t a (idx_1 t a) y))

/-- Operand 2 is one block. -/
theorem idx_2 : ∀ (t : Fin grid0.N) (a : Fin 3), win0_2.index t a = 0 := by decide +kernel

/-- Operand 2's block is the array. -/
theorem blk_2 (t : Fin cfg0.N) : (iblk0 V c 2 t : Vec Ideal S8x64x64 .f32) = V c main_arg9 :=
  funext fun y => congrArg (V c main_arg9 : Vec Ideal S8x64x64 .f32) (funext fun a =>
    Fin.ext (Window.rect_emb_val_of_index_zero win0_2 t a (idx_2 t a) y))

/-- Operand 3 is one block. -/
theorem idx_3 : ∀ (t : Fin grid0.N) (a : Fin 2), win0_3.index t a = 0 := by decide +kernel

/-- Operand 3's block is the array. -/
theorem blk_3 (t : Fin cfg0.N) : (iblk0 V c 3 t : Vec Ideal S512x8 .f32) = V c main_v11 :=
  funext fun y => congrArg (V c main_v11 : Vec Ideal S512x8 .f32) (funext fun a =>
    Fin.ext (Window.rect_emb_val_of_index_zero win0_3 t a (idx_3 t a) y))

/-- Operand 4 is one block. -/
theorem idx_4 : ∀ (t : Fin grid0.N) (a : Fin 2), win0_4.index t a = 0 := by decide +kernel

/-- Operand 4's block is the array. -/
theorem blk_4 (t : Fin cfg0.N) : (iblk0 V c 4 t : Vec Ideal S512x64 .f32) = V c main_v19 :=
  funext fun y => congrArg (V c main_v19 : Vec Ideal S512x64 .f32) (funext fun a =>
    Fin.ext (Window.rect_emb_val_of_index_zero win0_4 t a (idx_4 t a) y))

/-- Operand 5 is one block. -/
theorem idx_5 : ∀ (t : Fin grid0.N) (a : Fin 2), win0_5.index t a = 0 := by decide +kernel

/-- Operand 5's block is the array. -/
theorem blk_5 (t : Fin cfg0.N) : (iblk0 V c 5 t : Vec Ideal S8x64 .f32) = V c main_arg2 :=
  funext fun y => congrArg (V c main_arg2 : Vec Ideal S8x64 .f32) (funext fun a =>
    Fin.ext (Window.rect_emb_val_of_index_zero win0_5 t a (idx_5 t a) y))

/-- Operand 6 is one block. -/
theorem idx_6 : ∀ (t : Fin grid0.N) (a : Fin 2), win0_6.index t a = 0 := by decide +kernel

/-- Operand 6's block is the array. -/
theorem blk_6 (t : Fin cfg0.N) : (iblk0 V c 6 t : Vec Ideal S8x1 .f32) = V c main_v20 :=
  funext fun y => congrArg (V c main_v20 : Vec Ideal S8x1 .f32) (funext fun a =>
    Fin.ext (Window.rect_emb_val_of_index_zero win0_6 t a (idx_6 t a) y))

/-- Operand 7 is one block. -/
theorem idx_7 : ∀ (t : Fin grid0.N) (a : Fin 2), win0_7.index t a = 0 := by decide +kernel

/-- Operand 7's block is the array. -/
theorem blk_7 (t : Fin cfg0.N) : (iblk0 V c 7 t : Vec Ideal S8x64 .f32) = V c main_arg4 :=
  funext fun y => congrArg (V c main_arg4 : Vec Ideal S8x64 .f32) (funext fun a =>
    Fin.ext (Window.rect_emb_val_of_index_zero win0_7 t a (idx_7 t a) y))

/-- Operand 8 is one block. -/
theorem idx_8 : ∀ (t : Fin grid0.N) (a : Fin 2), win0_8.index t a = 0 := by decide +kernel

/-- Operand 8's block is the array. -/
theorem blk_8 (t : Fin cfg0.N) : (iblk0 V c 8 t : Vec Ideal S8x1 .f32) = V c main_v21 :=
  funext fun y => congrArg (V c main_v21 : Vec Ideal S8x1 .f32) (funext fun a =>
    Fin.ext (Window.rect_emb_val_of_index_zero win0_8 t a (idx_8 t a) y))

/-- Operand 9 is one block. -/
theorem idx_9 : ∀ (t : Fin grid0.N) (a : Fin 2), win0_9.index t a = 0 := by decide +kernel

/-- Operand 9's block is the array. -/
theorem blk_9 (t : Fin cfg0.N) : (iblk0 V c 9 t : Vec Ideal S8x64 .f32) = V c main_arg6 :=
  funext fun y => congrArg (V c main_arg6 : Vec Ideal S8x64 .f32) (funext fun a =>
    Fin.ext (Window.rect_emb_val_of_index_zero win0_9 t a (idx_9 t a) y))

/-- Operand 10 is one block. -/
theorem idx_10 : ∀ (t : Fin grid0.N) (a : Fin 2), win0_10.index t a = 0 := by decide +kernel

/-- Operand 10's block is the array. -/
theorem blk_10 (t : Fin cfg0.N) : (iblk0 V c 10 t : Vec Ideal S8x1 .f32) = V c main_v22 :=
  funext fun y => congrArg (V c main_v22 : Vec Ideal S8x1 .f32) (funext fun a =>
    Fin.ext (Window.rect_emb_val_of_index_zero win0_10 t a (idx_10 t a) y))

/-! ## The blocks written -/

/-- Result 0's block at point `t`. -/
theorem idx_11 : ∀ t : Fin grid0.N, win0_11.index t 0 = t.val ∧ win0_11.index t 1 = 0 := by decide +kernel

/-- Result 0's blocks cover its array. -/
theorem cover_11 (i : ((cfg0.win 11).arr.view.loc (c.tc : Thread nD τ)).2.ty.Idx) :
    ∃ t : Fin cfg0.N, (cfg0.win 11).flush t = true ∧ i ∈ ((cfg0.win 11).blk t).view.set := by
  have hN : cfg0.N = 8 := N_0
  have h0 : (i 0).val < 24576 := (i 0).isLt
  have h1 : (i 1).val < 64 := (i 1).isLt
  obtain ⟨t, ht⟩ : ∃ t : Fin cfg0.N, t.val = (i 0).val / 3072 := ⟨⟨(i 0).val / 3072, by omega⟩, rfl⟩
  refine ⟨t, flush0_11 t, ?_⟩
  show i ∈ ((View.whole main_v23_0).slice ((cfg0.win 11).rect t)).set
  erw [View.set_slice_whole]
  refine (Pipeline.Window.mem_rect_iff win0_11 t i (by rfl)).mpr (Fin.forall_fin_two.2 ⟨?_, ?_⟩)
  · rw [(idx_11 t).1]
    show t.val * 3072 ≤ (i 0).val ∧ (i 0).val < t.val * 3072 + 3072
    omega
  · rw [(idx_11 t).2]
    show 0 * 64 ≤ (i 1).val ∧ (i 1).val < 0 * 64 + 64
    omega

/-- What every block written has, result 0's array has. -/
theorem arr_11 (P : S24576x64.Idx → EReal → Prop)
    (hP : ∀ (t : Fin cfg0.N) (y : S3072x64.Idx) (i : S24576x64.Idx), (i 0).val = t.val * 3072 + (y 0).val → i 1 = y 1 →
      P i (out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S24576x64.Idx) : P i ((dat0 V c).arrAt 11 cfg0.N i) := by
  refine (dat0 V c).arrAt_forall_of_cover 11 P (fun t _ y => ?_) (cover_11 c) i
  have h1 : (win0_11.rect t).emb y 1 = y 1 := Fin.ext (Window.rect_emb_val_of_index_zero win0_11 t 1 (idx_11 t).2 y)
  have h := hP t y ((win0_11.rect t).emb y) ((Window.rect_emb_val win0_11 t y 0).trans (by rw [(idx_11 t).1]; rfl)) h1
  have e : (dat0 V c).flushed 11 t y = (dat0 V c).after 11 t y := rfl
  rw [← after0_11 V c t, ← e] at h
  exact h

/-- Result 1's block at point `t`. -/
theorem idx_12 : ∀ t : Fin grid0.N, win0_12.index t 0 = t.val ∧ win0_12.index t 1 = 0 := by decide +kernel

/-- Result 1's blocks cover its array. -/
theorem cover_12 (i : ((cfg0.win 12).arr.view.loc (c.tc : Thread nD τ)).2.ty.Idx) :
    ∃ t : Fin cfg0.N, (cfg0.win 12).flush t = true ∧ i ∈ ((cfg0.win 12).blk t).view.set := by
  have hN : cfg0.N = 8 := N_0
  have h0 : (i 0).val < 24576 := (i 0).isLt
  have h1 : (i 1).val < 64 := (i 1).isLt
  obtain ⟨t, ht⟩ : ∃ t : Fin cfg0.N, t.val = (i 0).val / 3072 := ⟨⟨(i 0).val / 3072, by omega⟩, rfl⟩
  refine ⟨t, flush0_12 t, ?_⟩
  show i ∈ ((View.whole main_v23_1).slice ((cfg0.win 12).rect t)).set
  erw [View.set_slice_whole]
  refine (Pipeline.Window.mem_rect_iff win0_12 t i (by rfl)).mpr (Fin.forall_fin_two.2 ⟨?_, ?_⟩)
  · rw [(idx_12 t).1]
    show t.val * 3072 ≤ (i 0).val ∧ (i 0).val < t.val * 3072 + 3072
    omega
  · rw [(idx_12 t).2]
    show 0 * 64 ≤ (i 1).val ∧ (i 1).val < 0 * 64 + 64
    omega

/-- What every block written has, result 1's array has. -/
theorem arr_12 (P : S24576x64.Idx → EReal → Prop)
    (hP : ∀ (t : Fin cfg0.N) (y : S3072x64.Idx) (i : S24576x64.Idx), (i 0).val = t.val * 3072 + (y 0).val → i 1 = y 1 →
      P i (out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S24576x64.Idx) : P i ((dat0 V c).arrAt 12 cfg0.N i) := by
  refine (dat0 V c).arrAt_forall_of_cover 12 P (fun t _ y => ?_) (cover_12 c) i
  have h1 : (win0_12.rect t).emb y 1 = y 1 := Fin.ext (Window.rect_emb_val_of_index_zero win0_12 t 1 (idx_12 t).2 y)
  have h := hP t y ((win0_12.rect t).emb y) ((Window.rect_emb_val win0_12 t y 0).trans (by rw [(idx_12 t).1]; rfl)) h1
  have e : (dat0 V c).flushed 12 t y = (dat0 V c).after 12 t y := rfl
  rw [← after0_12 V c t, ← e] at h
  exact h

/-- Result 2's block at point `t`. -/
theorem idx_13 : ∀ t : Fin grid0.N, win0_13.index t 0 = t.val ∧ win0_13.index t 1 = 0 := by decide +kernel

/-- Result 2's blocks cover its array. -/
theorem cover_13 (i : ((cfg0.win 13).arr.view.loc (c.tc : Thread nD τ)).2.ty.Idx) :
    ∃ t : Fin cfg0.N, (cfg0.win 13).flush t = true ∧ i ∈ ((cfg0.win 13).blk t).view.set := by
  have hN : cfg0.N = 8 := N_0
  have h0 : (i 0).val < 24576 := (i 0).isLt
  have h1 : (i 1).val < 64 := (i 1).isLt
  obtain ⟨t, ht⟩ : ∃ t : Fin cfg0.N, t.val = (i 0).val / 3072 := ⟨⟨(i 0).val / 3072, by omega⟩, rfl⟩
  refine ⟨t, flush0_13 t, ?_⟩
  show i ∈ ((View.whole main_v23_2).slice ((cfg0.win 13).rect t)).set
  erw [View.set_slice_whole]
  refine (Pipeline.Window.mem_rect_iff win0_13 t i (by rfl)).mpr (Fin.forall_fin_two.2 ⟨?_, ?_⟩)
  · rw [(idx_13 t).1]
    show t.val * 3072 ≤ (i 0).val ∧ (i 0).val < t.val * 3072 + 3072
    omega
  · rw [(idx_13 t).2]
    show 0 * 64 ≤ (i 1).val ∧ (i 1).val < 0 * 64 + 64
    omega

/-- What every block written has, result 2's array has. -/
theorem arr_13 (P : S24576x64.Idx → EReal → Prop)
    (hP : ∀ (t : Fin cfg0.N) (y : S3072x64.Idx) (i : S24576x64.Idx), (i 0).val = t.val * 3072 + (y 0).val → i 1 = y 1 →
      P i (out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S24576x64.Idx) : P i ((dat0 V c).arrAt 13 cfg0.N i) := by
  refine (dat0 V c).arrAt_forall_of_cover 13 P (fun t _ y => ?_) (cover_13 c) i
  have h1 : (win0_13.rect t).emb y 1 = y 1 := Fin.ext (Window.rect_emb_val_of_index_zero win0_13 t 1 (idx_13 t).2 y)
  have h := hP t y ((win0_13.rect t).emb y) ((Window.rect_emb_val win0_13 t y 0).trans (by rw [(idx_13 t).1]; rfl)) h1
  have e : (dat0 V c).flushed 13 t y = (dat0 V c).after 13 t y := rfl
  rw [← after0_13 V c t, ← e] at h
  exact h

/-- Result 3's block at point `t`. -/
theorem idx_14 : ∀ t : Fin grid0.N, win0_14.index t 1 = t.val ∧ win0_14.index t 0 = 0 := by decide +kernel

/-- Result 3's blocks cover its array. -/
theorem cover_14 (i : ((cfg0.win 14).arr.view.loc (c.tc : Thread nD τ)).2.ty.Idx) :
    ∃ t : Fin cfg0.N, (cfg0.win 14).flush t = true ∧ i ∈ ((cfg0.win 14).blk t).view.set := by
  have hN : cfg0.N = 8 := N_0
  have h0 : (i 1).val < 24576 := (i 1).isLt
  have h1 : (i 0).val < 8 := (i 0).isLt
  obtain ⟨t, ht⟩ : ∃ t : Fin cfg0.N, t.val = (i 1).val / 3072 := ⟨⟨(i 1).val / 3072, by omega⟩, rfl⟩
  refine ⟨t, flush0_14 t, ?_⟩
  show i ∈ ((View.whole main_v23_3).slice ((cfg0.win 14).rect t)).set
  erw [View.set_slice_whole]
  refine (Pipeline.Window.mem_rect_iff win0_14 t i (by rfl)).mpr (Fin.forall_fin_two.2 ⟨?_, ?_⟩)
  · rw [(idx_14 t).2]
    show 0 * 8 ≤ (i 0).val ∧ (i 0).val < 0 * 8 + 8
    omega
  · rw [(idx_14 t).1]
    show t.val * 3072 ≤ (i 1).val ∧ (i 1).val < t.val * 3072 + 3072
    omega

/-- What every block written has, result 3's array has. -/
theorem arr_14 (P : S8x24576.Idx → EReal → Prop)
    (hP : ∀ (t : Fin cfg0.N) (y : S8x3072.Idx) (i : S8x24576.Idx), (i 1).val = t.val * 3072 + (y 1).val → i 0 = y 0 →
      P i (out0_14 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S8x24576.Idx) : P i ((dat0 V c).arrAt 14 cfg0.N i) := by
  refine (dat0 V c).arrAt_forall_of_cover 14 P (fun t _ y => ?_) (cover_14 c) i
  have h1 : (win0_14.rect t).emb y 0 = y 0 := Fin.ext (Window.rect_emb_val_of_index_zero win0_14 t 0 (idx_14 t).2 y)
  have h := hP t y ((win0_14.rect t).emb y) ((Window.rect_emb_val win0_14 t y 1).trans (by rw [(idx_14 t).1]; rfl)) h1
  have e : (dat0 V c).flushed 14 t y = (dat0 V c).after 14 t y := rfl
  rw [← after0_14 V c t, ← e] at h
  exact h

/-- Result 4's block at point `t`. -/
theorem idx_15 : ∀ t : Fin grid0.N, win0_15.index t 1 = t.val ∧ win0_15.index t 0 = 0 := by decide +kernel

/-- Result 4's blocks cover its array. -/
theorem cover_15 (i : ((cfg0.win 15).arr.view.loc (c.tc : Thread nD τ)).2.ty.Idx) :
    ∃ t : Fin cfg0.N, (cfg0.win 15).flush t = true ∧ i ∈ ((cfg0.win 15).blk t).view.set := by
  have hN : cfg0.N = 8 := N_0
  have h0 : (i 1).val < 24576 := (i 1).isLt
  have h1 : (i 0).val < 8 := (i 0).isLt
  obtain ⟨t, ht⟩ : ∃ t : Fin cfg0.N, t.val = (i 1).val / 3072 := ⟨⟨(i 1).val / 3072, by omega⟩, rfl⟩
  refine ⟨t, flush0_15 t, ?_⟩
  show i ∈ ((View.whole main_v23_4).slice ((cfg0.win 15).rect t)).set
  erw [View.set_slice_whole]
  refine (Pipeline.Window.mem_rect_iff win0_15 t i (by rfl)).mpr (Fin.forall_fin_two.2 ⟨?_, ?_⟩)
  · rw [(idx_15 t).2]
    show 0 * 8 ≤ (i 0).val ∧ (i 0).val < 0 * 8 + 8
    omega
  · rw [(idx_15 t).1]
    show t.val * 3072 ≤ (i 1).val ∧ (i 1).val < t.val * 3072 + 3072
    omega

/-- What every block written has, result 4's array has. -/
theorem arr_15 (P : S8x24576.Idx → EReal → Prop)
    (hP : ∀ (t : Fin cfg0.N) (y : S8x3072.Idx) (i : S8x24576.Idx), (i 1).val = t.val * 3072 + (y 1).val → i 0 = y 0 →
      P i (out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S8x24576.Idx) : P i ((dat0 V c).arrAt 15 cfg0.N i) := by
  refine (dat0 V c).arrAt_forall_of_cover 15 P (fun t _ y => ?_) (cover_15 c) i
  have h1 : (win0_15.rect t).emb y 0 = y 0 := Fin.ext (Window.rect_emb_val_of_index_zero win0_15 t 0 (idx_15 t).2 y)
  have h := hP t y ((win0_15.rect t).emb y) ((Window.rect_emb_val win0_15 t y 1).trans (by rw [(idx_15 t).1]; rfl)) h1
  have e : (dat0 V c).flushed 15 t y = (dat0 V c).after 15 t y := rfl
  rw [← after0_15 V c t, ← e] at h
  exact h

/-- Result 5's block at point `t`. -/
theorem idx_16 : ∀ t : Fin grid0.N, win0_16.index t 1 = t.val ∧ win0_16.index t 0 = 0 := by decide +kernel

/-- Result 5's blocks cover its array. -/
theorem cover_16 (i : ((cfg0.win 16).arr.view.loc (c.tc : Thread nD τ)).2.ty.Idx) :
    ∃ t : Fin cfg0.N, (cfg0.win 16).flush t = true ∧ i ∈ ((cfg0.win 16).blk t).view.set := by
  have hN : cfg0.N = 8 := N_0
  have h0 : (i 1).val < 24576 := (i 1).isLt
  have h1 : (i 0).val < 8 := (i 0).isLt
  obtain ⟨t, ht⟩ : ∃ t : Fin cfg0.N, t.val = (i 1).val / 3072 := ⟨⟨(i 1).val / 3072, by omega⟩, rfl⟩
  refine ⟨t, flush0_16 t, ?_⟩
  show i ∈ ((View.whole main_v23_5).slice ((cfg0.win 16).rect t)).set
  erw [View.set_slice_whole]
  refine (Pipeline.Window.mem_rect_iff win0_16 t i (by rfl)).mpr (Fin.forall_fin_two.2 ⟨?_, ?_⟩)
  · rw [(idx_16 t).2]
    show 0 * 8 ≤ (i 0).val ∧ (i 0).val < 0 * 8 + 8
    omega
  · rw [(idx_16 t).1]
    show t.val * 3072 ≤ (i 1).val ∧ (i 1).val < t.val * 3072 + 3072
    omega

/-- What every block written has, result 5's array has. -/
theorem arr_16 (P : S8x24576.Idx → EReal → Prop)
    (hP : ∀ (t : Fin cfg0.N) (y : S8x3072.Idx) (i : S8x24576.Idx), (i 1).val = t.val * 3072 + (y 1).val → i 0 = y 0 →
      P i (out0_16 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S8x24576.Idx) : P i ((dat0 V c).arrAt 16 cfg0.N i) := by
  refine (dat0 V c).arrAt_forall_of_cover 16 P (fun t _ y => ?_) (cover_16 c) i
  have h1 : (win0_16.rect t).emb y 0 = y 0 := Fin.ext (Window.rect_emb_val_of_index_zero win0_16 t 0 (idx_16 t).2 y)
  have h := hP t y ((win0_16.rect t).emb y) ((Window.rect_emb_val win0_16 t y 1).trans (by rw [(idx_16 t).1]; rfl)) h1
  have e : (dat0 V c).flushed 16 t y = (dat0 V c).after 16 t y := rfl
  rw [← after0_16 V c t, ← e] at h
  exact h

/-- Result 6's block at point `t`. -/
theorem idx_17 : ∀ t : Fin grid0.N, win0_17.index t 1 = t.val ∧ win0_17.index t 0 = 0 := by decide +kernel

/-- Result 6's blocks cover its array. -/
theorem cover_17 (i : ((cfg0.win 17).arr.view.loc (c.tc : Thread nD τ)).2.ty.Idx) :
    ∃ t : Fin cfg0.N, (cfg0.win 17).flush t = true ∧ i ∈ ((cfg0.win 17).blk t).view.set := by
  have hN : cfg0.N = 8 := N_0
  have h0 : (i 1).val < 24576 := (i 1).isLt
  have h1 : (i 0).val < 8 := (i 0).isLt
  obtain ⟨t, ht⟩ : ∃ t : Fin cfg0.N, t.val = (i 1).val / 3072 := ⟨⟨(i 1).val / 3072, by omega⟩, rfl⟩
  refine ⟨t, flush0_17 t, ?_⟩
  show i ∈ ((View.whole main_v23_6).slice ((cfg0.win 17).rect t)).set
  erw [View.set_slice_whole]
  refine (Pipeline.Window.mem_rect_iff win0_17 t i (by rfl)).mpr (Fin.forall_fin_two.2 ⟨?_, ?_⟩)
  · rw [(idx_17 t).2]
    show 0 * 8 ≤ (i 0).val ∧ (i 0).val < 0 * 8 + 8
    omega
  · rw [(idx_17 t).1]
    show t.val * 3072 ≤ (i 1).val ∧ (i 1).val < t.val * 3072 + 3072
    omega

/-- What every block written has, result 6's array has. -/
theorem arr_17 (P : S8x24576.Idx → EReal → Prop)
    (hP : ∀ (t : Fin cfg0.N) (y : S8x3072.Idx) (i : S8x24576.Idx), (i 1).val = t.val * 3072 + (y 1).val → i 0 = y 0 →
      P i (out0_17 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S8x24576.Idx) : P i ((dat0 V c).arrAt 17 cfg0.N i) := by
  refine (dat0 V c).arrAt_forall_of_cover 17 P (fun t _ y => ?_) (cover_17 c) i
  have h1 : (win0_17.rect t).emb y 0 = y 0 := Fin.ext (Window.rect_emb_val_of_index_zero win0_17 t 0 (idx_17 t).2 y)
  have h := hP t y ((win0_17.rect t).emb y) ((Window.rect_emb_val win0_17 t y 1).trans (by rw [(idx_17 t).1]; rfl)) h1
  have e : (dat0 V c).flushed 17 t y = (dat0 V c).after 17 t y := rfl
  rw [← after0_17 V c t, ← e] at h
  exact h

/-- Result 7's block at point `t`. -/
theorem idx_18 : ∀ t : Fin grid0.N, win0_18.index t 1 = t.val ∧ win0_18.index t 0 = 0 := by decide +kernel

/-- Result 7's blocks cover its array. -/
theorem cover_18 (i : ((cfg0.win 18).arr.view.loc (c.tc : Thread nD τ)).2.ty.Idx) :
    ∃ t : Fin cfg0.N, (cfg0.win 18).flush t = true ∧ i ∈ ((cfg0.win 18).blk t).view.set := by
  have hN : cfg0.N = 8 := N_0
  have h0 : (i 1).val < 24576 := (i 1).isLt
  have h1 : (i 0).val < 8 := (i 0).isLt
  obtain ⟨t, ht⟩ : ∃ t : Fin cfg0.N, t.val = (i 1).val / 3072 := ⟨⟨(i 1).val / 3072, by omega⟩, rfl⟩
  refine ⟨t, flush0_18 t, ?_⟩
  show i ∈ ((View.whole main_v23_7).slice ((cfg0.win 18).rect t)).set
  erw [View.set_slice_whole]
  refine (Pipeline.Window.mem_rect_iff win0_18 t i (by rfl)).mpr (Fin.forall_fin_two.2 ⟨?_, ?_⟩)
  · rw [(idx_18 t).2]
    show 0 * 8 ≤ (i 0).val ∧ (i 0).val < 0 * 8 + 8
    omega
  · rw [(idx_18 t).1]
    show t.val * 3072 ≤ (i 1).val ∧ (i 1).val < t.val * 3072 + 3072
    omega

/-- What every block written has, result 7's array has. -/
theorem arr_18 (P : S8x24576.Idx → EReal → Prop)
    (hP : ∀ (t : Fin cfg0.N) (y : S8x3072.Idx) (i : S8x24576.Idx), (i 1).val = t.val * 3072 + (y 1).val → i 0 = y 0 →
      P i (out0_18 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S8x24576.Idx) : P i ((dat0 V c).arrAt 18 cfg0.N i) := by
  refine (dat0 V c).arrAt_forall_of_cover 18 P (fun t _ y => ?_) (cover_18 c) i
  have h1 : (win0_18.rect t).emb y 0 = y 0 := Fin.ext (Window.rect_emb_val_of_index_zero win0_18 t 0 (idx_18 t).2 y)
  have h := hP t y ((win0_18.rect t).emb y) ((Window.rect_emb_val win0_18 t y 1).trans (by rw [(idx_18 t).1]; rfl)) h1
  have e : (dat0 V c).flushed 18 t y = (dat0 V c).after 18 t y := rfl
  rw [← after0_18 V c t, ← e] at h
  exact h

/-- Result 8's block at point `t`. -/
theorem idx_19 : ∀ t : Fin grid0.N, win0_19.index t 1 = t.val ∧ win0_19.index t 0 = 0 := by decide +kernel

/-- Result 8's blocks cover its array. -/
theorem cover_19 (i : ((cfg0.win 19).arr.view.loc (c.tc : Thread nD τ)).2.ty.Idx) :
    ∃ t : Fin cfg0.N, (cfg0.win 19).flush t = true ∧ i ∈ ((cfg0.win 19).blk t).view.set := by
  have hN : cfg0.N = 8 := N_0
  have h0 : (i 1).val < 24576 := (i 1).isLt
  have h1 : (i 0).val < 8 := (i 0).isLt
  obtain ⟨t, ht⟩ : ∃ t : Fin cfg0.N, t.val = (i 1).val / 3072 := ⟨⟨(i 1).val / 3072, by omega⟩, rfl⟩
  refine ⟨t, flush0_19 t, ?_⟩
  show i ∈ ((View.whole main_v23_8).slice ((cfg0.win 19).rect t)).set
  erw [View.set_slice_whole]
  refine (Pipeline.Window.mem_rect_iff win0_19 t i (by rfl)).mpr (Fin.forall_fin_two.2 ⟨?_, ?_⟩)
  · rw [(idx_19 t).2]
    show 0 * 8 ≤ (i 0).val ∧ (i 0).val < 0 * 8 + 8
    omega
  · rw [(idx_19 t).1]
    show t.val * 3072 ≤ (i 1).val ∧ (i 1).val < t.val * 3072 + 3072
    omega

/-- What every block written has, result 8's array has. -/
theorem arr_19 (P : S8x24576.Idx → EReal → Prop)
    (hP : ∀ (t : Fin cfg0.N) (y : S8x3072.Idx) (i : S8x24576.Idx), (i 1).val = t.val * 3072 + (y 1).val → i 0 = y 0 →
      P i (out0_19 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) y))
    (i : S8x24576.Idx) : P i ((dat0 V c).arrAt 19 cfg0.N i) := by
  refine (dat0 V c).arrAt_forall_of_cover 19 P (fun t _ y => ?_) (cover_19 c) i
  have h1 : (win0_19.rect t).emb y 0 = y 0 := Fin.ext (Window.rect_emb_val_of_index_zero win0_19 t 0 (idx_19 t).2 y)
  have h := hP t y ((win0_19.rect t).emb y) ((Window.rect_emb_val win0_19 t y 1).trans (by rw [(idx_19 t).1]; rfl)) h1
  have e : (dat0 V c).flushed 19 t y = (dat0 V c).after 19 t y := rfl
  rw [← after0_19 V c t, ← e] at h
  exact h

/-! ## The arrays -/

/-- An index of a two-axis shape is its two coordinates. -/
theorem exists_ix2 {m n : Nat} (y : (⟨2, ![m, n]⟩ : Shape).Idx) : ∃ (a : Fin m) (b : Fin n), y = ix2 a b :=
  ⟨y 0, y 1, funext (Fin.forall_fin_two.2 ⟨rfl, rfl⟩)⟩

/-- The input rows, by coordinates. -/
abbrev xf (i : Fin 24576) (d : Fin 64) : EReal := (V c main_v0 : Vec Ideal S24576x64 .f32) (ix2 i d)

/-- The first-layer weights laid side by side, by coordinates. -/
abbrev w1c (d : Fin 64) (j : Fin 512) : EReal := (V c main_v2 : Vec Ideal S64x512 .f32) (ix2 d j)

/-- The column-to-expert table, by coordinates. -/
abbrev fm (j : Fin 512) (p : Fin 8) : EReal := (V c main_v11 : Vec Ideal S512x8 .f32) (ix2 j p)

/-- The column-to-feature table, by coordinates. -/
abbrev em (j : Fin 512) (d : Fin 64) : EReal := (V c main_v19 : Vec Ideal S512x64 .f32) (ix2 j d)

/-- The array of composed `q` rows. -/
theorem arr_syn_q (W1 : Fin 8 → Fin 64 → Fin 64 → EReal)
    (h1' : ∀ d p e, w1c V c d (col p e) = W1 p d e)
    (hfm : ∀ q f p, fm V c (col q f) p = if q = p then 1 else 0)
    (hem : ∀ q f d, em V c (col q f) d = if f = d then 1 else 0) (i : Fin 24576) (d : Fin 64) :
    (dat0 V c).arrAt 11 cfg0.N (ix2 i d) = syn (xf V c i) (proto (V c main_arg2)) (gates (V c main_v20)) W1 (wts (V c main_arg9)) d :=
  arr_11 V c (fun j v => v = syn (xf V c (j 0)) (proto (V c main_arg2)) (gates (V c main_v20)) W1 (wts (V c main_arg9)) (j 1))
    (fun t y j hi h1 => by
      obtain ⟨r, d, rfl⟩ := exists_ix2 y
      rw [blk_1, blk_2, blk_3, blk_4, blk_5, blk_6, blk_7, blk_8, blk_9, blk_10]
      exact (out_syn_q _ _ _ _ _ _ _ _ _ _ _ W1 h1' hfm hem r d).trans (by rw [row_0 V c t r (j 0) hi, h1]; rfl)) (ix2 i d)

/-- The array of `q` scores. -/
theorem arr_log_q (p : Fin 8) (i : Fin 24576) :
    (dat0 V c).arrAt 14 cfg0.N (ix2 p i) = logit (xf V c i) (proto (V c main_arg2)) (gates (V c main_v20)) p :=
  arr_14 V c (fun j v => v = logit (xf V c (j 1)) (proto (V c main_arg2)) (gates (V c main_v20)) (j 0))
    (fun t y j hi h1 => by
      obtain ⟨p, r, rfl⟩ := exists_ix2 y
      rw [blk_1, blk_2, blk_3, blk_4, blk_5, blk_6, blk_7, blk_8, blk_9, blk_10]
      exact (out_log_q _ _ _ _ _ _ _ _ _ _ _ p r).trans (by rw [row_0 V c t r (j 1) hi, h1]; rfl)) (ix2 p i)

/-- The array of `q` norms. -/
theorem arr_raw_q (W1 : Fin 8 → Fin 64 → Fin 64 → EReal)
    (h1' : ∀ d p e, w1c V c d (col p e) = W1 p d e)
    (hfm : ∀ q f p, fm V c (col q f) p = if q = p then 1 else 0) (p : Fin 8) (i : Fin 24576) :
    (dat0 V c).arrAt 17 cfg0.N (ix2 p i) = raw (xf V c i) (proto (V c main_arg2)) (gates (V c main_v20)) W1 (wts (V c main_arg9)) p :=
  arr_17 V c (fun j v => v = raw (xf V c (j 1)) (proto (V c main_arg2)) (gates (V c main_v20)) W1 (wts (V c main_arg9)) (j 0))
    (fun t y j hi h1 => by
      obtain ⟨p, r, rfl⟩ := exists_ix2 y
      rw [blk_1, blk_2, blk_3, blk_4, blk_5, blk_6, blk_7, blk_8, blk_9, blk_10]
      exact (out_raw_q _ _ _ _ _ _ _ _ _ _ _ W1 h1' hfm p r).trans (by rw [row_0 V c t r (j 1) hi, h1]; rfl)) (ix2 p i)

/-- The array of composed `k` rows. -/
theorem arr_syn_k (W1 : Fin 8 → Fin 64 → Fin 64 → EReal)
    (h1' : ∀ d p e, w1c V c d (col p e) = W1 p d e)
    (hfm : ∀ q f p, fm V c (col q f) p = if q = p then 1 else 0)
    (hem : ∀ q f d, em V c (col q f) d = if f = d then 1 else 0) (i : Fin 24576) (d : Fin 64) :
    (dat0 V c).arrAt 12 cfg0.N (ix2 i d) = syn (xf V c i) (proto (V c main_arg4)) (gates (V c main_v21)) W1 (wts (V c main_arg9)) d :=
  arr_12 V c (fun j v => v = syn (xf V c (j 0)) (proto (V c main_arg4)) (gates (V c main_v21)) W1 (wts (V c main_arg9)) (j 1))
    (fun t y j hi h1 => by
      obtain ⟨r, d, rfl⟩ := exists_ix2 y
      rw [blk_1, blk_2, blk_3, blk_4, blk_5, blk_6, blk_7, blk_8, blk_9, blk_10]
      exact (out_syn_k _ _ _ _ _ _ _ _ _ _ _ W1 h1' hfm hem r d).trans (by rw [row_0 V c t r (j 0) hi, h1]; rfl)) (ix2 i d)

/-- The array of `k` scores. -/
theorem arr_log_k (p : Fin 8) (i : Fin 24576) :
    (dat0 V c).arrAt 15 cfg0.N (ix2 p i) = logit (xf V c i) (proto (V c main_arg4)) (gates (V c main_v21)) p :=
  arr_15 V c (fun j v => v = logit (xf V c (j 1)) (proto (V c main_arg4)) (gates (V c main_v21)) (j 0))
    (fun t y j hi h1 => by
      obtain ⟨p, r, rfl⟩ := exists_ix2 y
      rw [blk_1, blk_2, blk_3, blk_4, blk_5, blk_6, blk_7, blk_8, blk_9, blk_10]
      exact (out_log_k _ _ _ _ _ _ _ _ _ _ _ p r).trans (by rw [row_0 V c t r (j 1) hi, h1]; rfl)) (ix2 p i)

/-- The array of `k` norms. -/
theorem arr_raw_k (W1 : Fin 8 → Fin 64 → Fin 64 → EReal)
    (h1' : ∀ d p e, w1c V c d (col p e) = W1 p d e)
    (hfm : ∀ q f p, fm V c (col q f) p = if q = p then 1 else 0) (p : Fin 8) (i : Fin 24576) :
    (dat0 V c).arrAt 18 cfg0.N (ix2 p i) = raw (xf V c i) (proto (V c main_arg4)) (gates (V c main_v21)) W1 (wts (V c main_arg9)) p :=
  arr_18 V c (fun j v => v = raw (xf V c (j 1)) (proto (V c main_arg4)) (gates (V c main_v21)) W1 (wts (V c main_arg9)) (j 0))
    (fun t y j hi h1 => by
      obtain ⟨p, r, rfl⟩ := exists_ix2 y
      rw [blk_1, blk_2, blk_3, blk_4, blk_5, blk_6, blk_7, blk_8, blk_9, blk_10]
      exact (out_raw_k _ _ _ _ _ _ _ _ _ _ _ W1 h1' hfm p r).trans (by rw [row_0 V c t r (j 1) hi, h1]; rfl)) (ix2 p i)

/-- The array of composed `v` rows. -/
theorem arr_syn_v (W1 : Fin 8 → Fin 64 → Fin 64 → EReal)
    (h1' : ∀ d p e, w1c V c d (col p e) = W1 p d e)
    (hfm : ∀ q f p, fm V c (col q f) p = if q = p then 1 else 0)
    (hem : ∀ q f d, em V c (col q f) d = if f = d then 1 else 0) (i : Fin 24576) (d : Fin 64) :
    (dat0 V c).arrAt 13 cfg0.N (ix2 i d) = syn (xf V c i) (proto (V c main_arg6)) (gates (V c main_v22)) W1 (wts (V c main_arg9)) d :=
  arr_13 V c (fun j v => v = syn (xf V c (j 0)) (proto (V c main_arg6)) (gates (V c main_v22)) W1 (wts (V c main_arg9)) (j 1))
    (fun t y j hi h1 => by
      obtain ⟨r, d, rfl⟩ := exists_ix2 y
      rw [blk_1, blk_2, blk_3, blk_4, blk_5, blk_6, blk_7, blk_8, blk_9, blk_10]
      exact (out_syn_v _ _ _ _ _ _ _ _ _ _ _ W1 h1' hfm hem r d).trans (by rw [row_0 V c t r (j 0) hi, h1]; rfl)) (ix2 i d)

/-- The array of `v` scores. -/
theorem arr_log_v (p : Fin 8) (i : Fin 24576) :
    (dat0 V c).arrAt 16 cfg0.N (ix2 p i) = logit (xf V c i) (proto (V c main_arg6)) (gates (V c main_v22)) p :=
  arr_16 V c (fun j v => v = logit (xf V c (j 1)) (proto (V c main_arg6)) (gates (V c main_v22)) (j 0))
    (fun t y j hi h1 => by
      obtain ⟨p, r, rfl⟩ := exists_ix2 y
      rw [blk_1, blk_2, blk_3, blk_4, blk_5, blk_6, blk_7, blk_8, blk_9, blk_10]
      exact (out_log_v _ _ _ _ _ _ _ _ _ _ _ p r).trans (by rw [row_0 V c t r (j 1) hi, h1]; rfl)) (ix2 p i)

/-- The array of `v` norms. -/
theorem arr_raw_v (W1 : Fin 8 → Fin 64 → Fin 64 → EReal)
    (h1' : ∀ d p e, w1c V c d (col p e) = W1 p d e)
    (hfm : ∀ q f p, fm V c (col q f) p = if q = p then 1 else 0) (p : Fin 8) (i : Fin 24576) :
    (dat0 V c).arrAt 19 cfg0.N (ix2 p i) = raw (xf V c i) (proto (V c main_arg6)) (gates (V c main_v22)) W1 (wts (V c main_arg9)) p :=
  arr_19 V c (fun j v => v = raw (xf V c (j 1)) (proto (V c main_arg6)) (gates (V c main_v22)) W1 (wts (V c main_arg9)) (j 0))
    (fun t y j hi h1 => by
      obtain ⟨p, r, rfl⟩ := exists_ix2 y
      rw [blk_1, blk_2, blk_3, blk_4, blk_5, blk_6, blk_7, blk_8, blk_9, blk_10]
      exact (out_raw_v _ _ _ _ _ _ _ _ _ _ _ W1 h1' hfm p r).trans (by rw [row_0 V c t r (j 1) hi, h1]; rfl)) (ix2 p i)

end Cert.KernelIdeal.Arr0

end
-- ==== Proof.Body1.lean ====
/- What one point of the attention launch computes: its loops run no trip (one block of queries and one of keys
   per head), so it is one pass of the masked softmax over the whole head, divided once at the end. -/
module

public import proofs.«01_k».proof.Proof.Spec
public import proofs.«01_k».proof.Proof.Gen.KernelIdeal.Frame

@[expose] public section

set_option maxRecDepth 16384

noncomputable section

namespace Cert.KernelIdeal.Body1

open Idealize.ShloMosaic Idealize.ShloMosaic.TcCoe Idealize.SL.Sem
open Cert.KernelIdeal Cert.KernelIdeal.Gen Cert.Spec
open scoped BigOperators

/-- The loop over whole earlier key blocks runs no trip. -/
theorem trips_t1 : ∀ i : grid1.Coords, Scf.trips (k1_t1_loop i).lb (k1_t1_loop i).ub (k1_t1_loop i).st = 0 := by decide +kernel

/-- Nor does its remainder loop. -/
theorem trips_t2 : ∀ i : grid1.Coords, Scf.trips (k1_t2_loop i).lb (k1_t2_loop i).ub (k1_t2_loop i).st = 0 := by decide +kernel

/-- The diagonal block is read at offset zero. -/
theorem off3_zero : ∀ i : grid1.Coords, k1_off3 i = fun _ => 0 := by
  intro i; funext a; revert i a; decide +kernel

/-- The three zero offsets are zero everywhere. -/
theorem zeros3 : (![0, 0, 0] : Fin 3 → Nat) = fun _ => 0 := by
  funext a; fin_cases a <;> rfl

/-- The block left is the final block's value from the starting state. -/
theorem out1 (c : Dev nD) (i : grid1.Coords) (a2 : Memref sig .tc .vmem S1x2048x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x2048x64 .f32) (h5 : a5.IsWhole)
    (x0 x1 x2 : Vec Ideal S1x2048x64 .f32) : out1_A_3 c i a2 h2 a3 h3 a4 h4 a5 h5 x0 x1 x2
      = k1_pay1 (k1_pay2 x0) k1_pay3 k1_pay4 k1_pay5 (k1_pay18 x1) x2 := by
  unfold out1_A_3
  rw [View.read_writes_eq_canon _ _ _ (cover1_A_3 c i a2 h2 a3 h3 a4 h4 a5 h5 x0 x1 x2)]
  unfold kernelRun1_A
  dsimp only
  sl_unfold_words
  rw [View.canon_unit_zero zeros3]
  rw [trips_t1 i, trips_t2 i]
  simp only [st_k1_t1_zero, st_k1_t2_zero]
  simp only [View.readAt_eq_ld, h2.read_unread, h3.read_unread, h4.read_unread]
  rw [View.ld_unit_zero (S := S1x2048x64) zeros3]
  have e (x : Vec Ideal S1x2048x64 .f32) : View.ld x (Rect.unit (s := S1x2048x64) (k1_off3 i) S1x2048x64.size (k1_off3_inb i)) = x :=
    View.ld_unit_zero (S := S1x2048x64) (off3_zero i) _ x
  exact congrArg₂ (fun a b => k1_pay1 (k1_pay2 x0) k1_pay3 k1_pay4 k1_pay5 (k1_pay18 a) b) (e x1) (e x2)

/-! ## The final block, in steps -/

/-- The masked score block. -/
def scores (x0 x1 : Vec Ideal S1x2048x64 .f32) : FVec Ideal S2048x2048 .f32 :=
  select (cmpi .sge (iota .tc S2048x2048 32 [0] iota_S2048x2048_d0_w32) (iota .tc S2048x2048 32 [1] iota_S2048x2048_d1_w32))
    (mulf (matmul dot_S2048x64_S2048x64_S2048x2048_1_1_0_0_n_n none (k1_pay2 x0) (k1_pay18 x1) (constant S2048x2048 .f32 0x00000000#32))
      (broadcast S2048x2048 (Scalar.ofBits .f32 0x3E000000#32 : Ideal .f32)))
    (broadcast S2048x2048 (Scalar.ofBits .f32 0xFF800000#32 : Ideal .f32))

/-- The running maximum after the block. -/
def rowMax (s : FVec Ideal S2048x2048 .f32) : FVec Ideal S2048x1 .f32 :=
  maximumf k1_pay4 (shapeCast S2048x1 (multiReduction .maximumf [1] S2048 s 0xFF800000#32 reduces_S2048x2048_S2048 (.inl rfl) rfl) shapeCasts_S2048_S2048x1)

/-- The weights. -/
def probs (s : FVec Ideal S2048x2048 .f32) (m : FVec Ideal S2048x1 .f32) : FVec Ideal S2048x2048 .f32 :=
  exp (subf s (broadcastTo S2048x2048 m broadcasts_S2048x1_S2048x2048))

/-- The factor the earlier state is scaled by. -/
def decay (m : FVec Ideal S2048x1 .f32) : FVec Ideal S2048x1 .f32 := exp (subf k1_pay4 m)

/-- The running sum after the block. -/
def rowSum (p : FVec Ideal S2048x2048 .f32) (a : FVec Ideal S2048x1 .f32) : FVec Ideal S2048x1 .f32 :=
  addf (mulf k1_pay5 a) (shapeCast S2048x1 (multiReduction .add [1] S2048 p 0x00000000#32 reduces_S2048x2048_S2048 (.inl rfl) rfl) shapeCasts_S2048_S2048x1)

/-- The running weighted values after the block. -/
def accum (p : FVec Ideal S2048x2048 .f32) (a : FVec Ideal S2048x1 .f32) (v : Vec Ideal S1x2048x64 .f32) : FVec Ideal S2048x64 .f32 :=
  have w : FVec Ideal S2048x64 .f32 := shapeCast S2048x64 v shapeCasts_S1x2048x64_S2048x64
  addf (mulf k1_pay3 (broadcastTo S2048x64 a broadcasts_S2048x1_S2048x64))
    (matmul dot_S2048x2048_S2048x64_S2048x64_1_0_0_1_n_n none p w (constant S2048x64 .f32 0x00000000#32))

/-- The quotient. -/
def quot (n : FVec Ideal S2048x64 .f32) (l : FVec Ideal S2048x1 .f32) : FVec Ideal S1x2048x64 .f32 :=
  shapeCast S1x2048x64 (divf n (broadcastTo S2048x64 l broadcasts_S2048x1_S2048x64)) shapeCasts_S2048x64_S1x2048x64

/-- The final block's value is its steps composed. -/
theorem pay1_eq (x0 x1 x2 : Vec Ideal S1x2048x64 .f32) (s : FVec Ideal S2048x2048 .f32) (hs : s = scores x0 x1) :
    k1_pay1 (k1_pay2 x0) k1_pay3 k1_pay4 k1_pay5 (k1_pay18 x1) x2
      = quot (accum (probs s (rowMax s)) (decay (rowMax s)) x2) (rowSum (probs s (rowMax s)) (decay (rowMax s))) := by
  subst hs
  rfl

/-- A head's block by coordinates. -/
abbrev mat (x : Vec Ideal S1x2048x64 .f32) (t : Fin 2048) (d : Fin 64) : EReal := x (ix3 0 t d)

/-- The score block is the masked scores. -/
theorem scores_apply (x0 x1 : Vec Ideal S1x2048x64 .f32) (t u : Fin 2048) : scores x0 x1 (ix2 t u) = score (mat x0) (mat x1) t u := by
  pointwise [scores, k1_pay2, k1_pay18]
  rw [select_sge, ofBits_eighth, ofBits_negInf]
  rfl

/-- The starting maximum is minus infinity. -/
theorem pay4_apply (j : S2048x1.Idx) : (k1_pay4 : FVec Ideal S2048x1 .f32) j = ⊥ := ofBits_negInf

/-- The block's row maximum. -/
theorem blockMax_apply (s : FVec Ideal S2048x2048 .f32) (t : Fin 2048) :
    shapeCast S2048x1 (multiReduction .maximumf [1] S2048 s 0xFF800000#32 reduces_S2048x2048_S2048 (.inl rfl) rfl) shapeCasts_S2048_S2048x1 (ix2 t 0)
      = Finset.univ.fold max (Ideal.ofBits .f32 0xFF800000#32) fun u => s (ix2 t u) := by
  pointwise []

/-- Nothing lies below the least value. -/
theorem bot_max (a : EReal) : max ⊥ a = a := max_bot_left a

/-- The greater of two blocks, entry by entry. -/
theorem maximumf_at (a b : FVec Ideal S2048x1 .f32) (j : S2048x1.Idx) : maximumf a b j = max (a j) (b j) := rfl

/-- The running maximum is the row's greatest score. -/
theorem rowMax_apply (s : FVec Ideal S2048x2048 .f32) (t : Fin 2048) :
    rowMax s (ix2 t 0) = Finset.univ.fold max ⊥ fun u => s (ix2 t u) := by
  unfold rowMax
  rw [maximumf_at, pay4_apply, blockMax_apply, ofBits_negInf]
  exact bot_max _

/-- A weight is the exponential of its score less the maximum. -/
theorem probs_apply (s : FVec Ideal S2048x2048 .f32) (m : FVec Ideal S2048x1 .f32) (t u : Fin 2048) :
    probs s m (ix2 t u) = Ideal.exp (s (ix2 t u) - m (ix2 t 0)) := by
  pointwise [probs]

/-- The running sum is the row's weights added up. -/
theorem rowSum_apply (p : FVec Ideal S2048x2048 .f32) (a : FVec Ideal S2048x1 .f32) (t : Fin 2048) :
    rowSum p a (ix2 t 0) = ∑ u, p (ix2 t u) := by
  pointwise [rowSum, k1_pay5]
  rw [zero_mul, zero_add]

/-- The running weighted values are the weighted values added up. -/
theorem accum_apply (p : FVec Ideal S2048x2048 .f32) (a : FVec Ideal S2048x1 .f32) (v : Vec Ideal S1x2048x64 .f32) (t : Fin 2048) (d : Fin 64) :
    accum p a v (ix2 t d) = ∑ u, p (ix2 t u) * mat v u d := by
  pointwise [accum, k1_pay3]
  rw [zero_mul, zero_add]

/-- The quotient, by coordinates. -/
theorem quot_apply (n : FVec Ideal S2048x64 .f32) (l : FVec Ideal S2048x1 .f32) (t : Fin 2048) (d : Fin 64) :
    quot n l (ix3 0 t d) = Ideal.div (n (ix2 t d)) (l (ix2 t 0)) := by
  pointwise [quot]

/-- The block left is the head's attention. -/
theorem out1_apply (c : Dev nD) (i : grid1.Coords) (a2 : Memref sig .tc .vmem S1x2048x64 .f32) (h2 : a2.IsWhole)
    (a3 : Memref sig .tc .vmem S1x2048x64 .f32) (h3 : a3.IsWhole) (a4 : Memref sig .tc .vmem S1x2048x64 .f32) (h4 : a4.IsWhole)
    (a5 : Memref sig .tc .vmem S1x2048x64 .f32) (h5 : a5.IsWhole) (x0 x1 x2 : Vec Ideal S1x2048x64 .f32) (t : Fin 2048) (d : Fin 64) :
    out1_A_3 c i a2 h2 a3 h3 a4 h4 a5 h5 x0 x1 x2 (ix3 0 t d) = headOnce (mat x0) (mat x1) (mat x2) t d := by
  rw [out1, pay1_eq x0 x1 x2 _ rfl, quot_apply, accum_apply, rowSum_apply]
  have e : ∀ u, probs (scores x0 x1) (rowMax (scores x0 x1)) (ix2 t u) = wt (mat x0) (mat x1) t u := fun u => by
    rw [probs_apply, rowMax_apply]
    simp only [scores_apply]
    rfl
  simp only [e]
  rfl

end Cert.KernelIdeal.Body1

end
-- ==== Proof.Arr1.lean ====
/- What the array the attention launch writes holds when it is over: each head's attention of the arrays it reads. -/
module

public import proofs.«01_k».proof.Proof.Body1
public import Idealize.ShloMosaic.Lib.Pipeline.Value
public import Idealize.ShloMosaic.Lib.Pipeline.ValueKit

@[expose] public section

set_option maxRecDepth 16384

noncomputable section

namespace Cert.KernelIdeal.Arr1

open Idealize.ShloMosaic Idealize.ShloMosaic.TcCoe Idealize.SL.Sem
open Idealize.ShloMosaic.Pipeline (Dat Cfg Window)
open Cert.KernelIdeal Cert.KernelIdeal.Gen Cert.Spec Cert.KernelIdeal.Body1
open scoped BigOperators

variable (V : (c : Dev nD) → (b : Ref sig .tc) → Buf (Elt Ideal) ((c : Thread nD τ).loc b)) (c : Dev nD)

/-- A head's matrix in an array of heads. -/
abbrev head (x : Vec Ideal S12x2048x64 .f32) (h : Fin 12) (t : Fin 2048) (d : Fin 64) : EReal := x (ix3 h t d)

/-- The query block at point `t` is head `t`. -/
theorem idx_0 : ∀ t : Fin grid1.N, win1_0.index t 0 = t.val ∧ win1_0.index t 1 = 0 ∧ win1_0.index t 2 = 0 := by decide +kernel

/-- The query block, read. -/
theorem blk_0 (t : Fin cfg1.N) (h : Fin 12) (e : h.val = t.val) :
    mat (iblk1 V c 0 t : Vec Ideal S1x2048x64 .f32) = head (V c main_v25) h := by
  funext r d
  show (V c main_v25 : Vec Ideal S12x2048x64 .f32) ((win1_0.rect t).emb (ix3 0 r d)) = _
  refine congrArg _ (funext fun a => Fin.ext ?_)
  match a with
  | 0 =>
    refine (Window.rect_emb_val win1_0 t (ix3 0 r d) 0).trans ?_
    rw [(idx_0 t).1]
    show t.val * 1 + 0 = h.val
    omega
  | 1 => exact Window.rect_emb_val_of_index_zero win1_0 t 1 (idx_0 t).2.1 (ix3 0 r d)
  | 2 => exact Window.rect_emb_val_of_index_zero win1_0 t 2 (idx_0 t).2.2 (ix3 0 r d)

/-- The key block at point `t` is head `t`. -/
theorem idx_1 : ∀ t : Fin grid1.N, win1_1.index t 0 = t.val ∧ win1_1.index t 1 = 0 ∧ win1_1.index t 2 = 0 := by decide +kernel

/-- The key block, read. -/
theorem blk_1 (t : Fin cfg1.N) (h : Fin 12) (e : h.val = t.val) :
    mat (iblk1 V c 1 t : Vec Ideal S1x2048x64 .f32) = head (V c main_v27) h := by
  funext r d
  show (V c main_v27 : Vec Ideal S12x2048x64 .f32) ((win1_1.rect t).emb (ix3 0 r d)) = _
  refine congrArg _ (funext fun a => Fin.ext ?_)
  match a with
  | 0 =>
    refine (Window.rect_emb_val win1_1 t (ix3 0 r d) 0).trans ?_
    rw [(idx_1 t).1]
    show t.val * 1 + 0 = h.val
    omega
  | 1 => exact Window.rect_emb_val_of_index_zero win1_1 t 1 (idx_1 t).2.1 (ix3 0 r d)
  | 2 => exact Window.rect_emb_val_of_index_zero win1_1 t 2 (idx_1 t).2.2 (ix3 0 r d)

/-- The value block at point `t` is head `t`. -/
theorem idx_2 : ∀ t : Fin grid1.N, win1_2.index t 0 = t.val ∧ win1_2.index t 1 = 0 ∧ win1_2.index t 2 = 0 := by decide +kernel

/-- The value block, read. -/
theorem blk_2 (t : Fin cfg1.N) (h : Fin 12) (e : h.val = t.val) :
    mat (iblk1 V c 2 t : Vec Ideal S1x2048x64 .f32) = head (V c main_v29) h := by
  funext r d
  show (V c main_v29 : Vec Ideal S12x2048x64 .f32) ((win1_2.rect t).emb (ix3 0 r d)) = _
  refine congrArg _ (funext fun a => Fin.ext ?_)
  match a with
  | 0 =>
    refine (Window.rect_emb_val win1_2 t (ix3 0 r d) 0).trans ?_
    rw [(idx_2 t).1]
    show t.val * 1 + 0 = h.val
    omega
  | 1 => exact Window.rect_emb_val_of_index_zero win1_2 t 1 (idx_2 t).2.1 (ix3 0 r d)
  | 2 => exact Window.rect_emb_val_of_index_zero win1_2 t 2 (idx_2 t).2.2 (ix3 0 r d)

/-- The written block at point `t` is head `t`. -/
theorem idx_3 : ∀ t : Fin grid1.N, win1_3.index t 0 = t.val ∧ win1_3.index t 1 = 0 ∧ win1_3.index t 2 = 0 := by decide +kernel

/-- The written blocks cover the array. -/
theorem cover_3 (i : ((cfg1.win 3).arr.view.loc (c.tc : Thread nD τ)).2.ty.Idx) :
    ∃ t : Fin cfg1.N, (cfg1.win 3).flush t = true ∧ i ∈ ((cfg1.win 3).blk t).view.set := by
  have hN : cfg1.N = 12 := N_1
  have h0 : (i 0).val < 12 := (i 0).isLt
  have h1 : (i 1).val < 2048 := (i 1).isLt
  have h2 : (i 2).val < 64 := (i 2).isLt
  obtain ⟨t, ht⟩ : ∃ t : Fin cfg1.N, t.val = (i 0).val := ⟨⟨(i 0).val, by omega⟩, rfl⟩
  refine ⟨t, flush1_3 t, ?_⟩
  show i ∈ ((View.whole main_v30).slice ((cfg1.win 3).rect t)).set
  erw [View.set_slice_whole]
  refine (Pipeline.Window.mem_rect_iff win1_3 t i (by rfl)).mpr fun a => ?_
  match a with
  | 0 =>
    rw [(idx_3 t).1]
    show t.val * 1 ≤ (i 0).val ∧ (i 0).val < t.val * 1 + 1
    omega
  | 1 =>
    rw [(idx_3 t).2.1]
    show 0 * 2048 ≤ (i 1).val ∧ (i 1).val < 0 * 2048 + 2048
    omega
  | 2 =>
    rw [(idx_3 t).2.2]
    show 0 * 64 ≤ (i 2).val ∧ (i 2).val < 0 * 64 + 64
    omega

/-- What every block written has, the array has. -/
theorem arr_3 (P : S12x2048x64.Idx → EReal → Prop)
    (hP : ∀ (t : Fin cfg1.N) (y : S1x2048x64.Idx) (i : S12x2048x64.Idx), (i 0).val = t.val → i 1 = y 1 → i 2 = y 2 →
      P i (outsAt1 (F := Ideal) V c t y))
    (i : S12x2048x64.Idx) : P i ((dat1 V c).arrAt 3 cfg1.N i) := by
  refine (dat1 V c).arrAt_forall_of_cover 3 P (fun t _ y => ?_) (cover_3 c) i
  have h0 : ((win1_3.rect t).emb y 0).val = t.val := (Window.rect_emb_val win1_3 t y 0).trans (by
    have hy : (y 0).val < 1 := (y 0).isLt
    rw [(idx_3 t).1]
    show t.val * 1 + (y 0).val = t.val
    omega)
  have h1 : (win1_3.rect t).emb y 1 = y 1 := Fin.ext (Window.rect_emb_val_of_index_zero win1_3 t 1 (idx_3 t).2.1 y)
  have h2 : (win1_3.rect t).emb y 2 = y 2 := Fin.ext (Window.rect_emb_val_of_index_zero win1_3 t 2 (idx_3 t).2.2 y)
  have h := hP t y ((win1_3.rect t).emb y) h0 h1 h2
  have e : (dat1 V c).flushed 3 t y = (dat1 V c).after 3 t y := rfl
  rw [← after1_3 V c t, ← e] at h
  exact h

/-- What the body leaves at a point, of the blocks it reads. -/
theorem outs_apply (t : Fin cfg1.N) (h : Fin 12) (e : h.val = t.val) (r : Fin 2048) (d : Fin 64) :
    outsAt1 (F := Ideal) V c t (ix3 0 r d) = headOnce (head (V c main_v25) h) (head (V c main_v27) h) (head (V c main_v29) h) r d := by
  rw [← blk_0 V c t h e, ← blk_1 V c t h e, ← blk_2 V c t h e]
  exact out1_apply c (grid1.coords t) (ms1_0 t) (hs1_0 t) (ms1_1 t) (hs1_1 t) (ms1_2 t) (hs1_2 t) (ms1_3 t) (hs1_3 t)
    (iblk1 V c 0 t) (iblk1 V c 1 t) (iblk1 V c 2 t) r d

/-- The attention launch's array holds every head's attention. -/
theorem arr_att (h : Fin 12) (r : Fin 2048) (d : Fin 64) :
    ((dat1 V c).arrAt 3 cfg1.N : Vec Ideal S12x2048x64 .f32) (ix3 h r d)
      = headOnce (head (V c main_v25) h) (head (V c main_v27) h) (head (V c main_v29) h) r d := by
  refine arr_3 V c (fun i v => ∀ (h : Fin 12) (r : Fin 2048) (d : Fin 64), i = ix3 h r d →
    v = headOnce (head (V c main_v25) h) (head (V c main_v27) h) (head (V c main_v29) h) r d) ?_ (ix3 h r d) h r d rfl
  intro t y i e0 e1 e2 h r d ei
  subst ei
  have ey : y = ix3 0 r d := funext fun a => match a with
    | 0 => Fin.ext (by
        have hy : (y 0).val < 1 := (y 0).isLt
        show (y 0).val = 0
        omega)
    | 1 => e1.symm
    | 2 => e2.symm
  rw [ey]
  exact outs_apply V c t h e0 r d

end Cert.KernelIdeal.Arr1
-- ==== Proof.Arr2.lean ====
/- What the array the projection launch writes holds when it is over: the product of the rows it reads with the
   transposed weights. -/
module

public import proofs.«01_k».proof.Proof.Spec
public import proofs.«01_k».proof.Proof.Gen.KernelIdeal.Frame
public import Idealize.ShloMosaic.Lib.Pipeline.Value
public import Idealize.ShloMosaic.Lib.Pipeline.ValueKit

@[expose] public section

set_option maxRecDepth 16384

noncomputable section

namespace Cert.KernelIdeal.Arr2

open Idealize.ShloMosaic Idealize.ShloMosaic.TcCoe Idealize.SL.Sem
open Idealize.ShloMosaic.Pipeline (Dat Cfg Window)
open Cert.KernelIdeal Cert.KernelIdeal.Gen Cert.Spec
open scoped BigOperators

/-- The two zero offsets are zero everywhere. -/
theorem zeros2 : (![0, 0] : Fin 2 → Nat) = fun _ => 0 := by
  funext a; fin_cases a <;> rfl

/-- The payload's entry is an inner product. -/
theorem pay_apply (x : Vec Ideal S512x768 .f32) (w : Vec Ideal S768x768 .f32) (r : Fin 512) (o : Fin 768) :
    (k2_pay1 x w : Vec Ideal S512x768 .f32) (ix2 r o) = ∑ k : Fin 768, (x (ix2 r k) : EReal) * w (ix2 o k) := by
  pointwise [k2_pay1]

/-- The block the body leaves. -/
theorem out_apply (x : Vec Ideal S512x768 .f32) (w : Vec Ideal S768x768 .f32) (r : Fin 512) (o : Fin 768) :
    out2_2 x w (ix2 r o) = ∑ k : Fin 768, (x (ix2 r k) : EReal) * w (ix2 o k) := by
  have e : out2_2 x w = k2_pay1 x w := by
    unfold out2_2
    rw [show View.ld x r2_0 = x from View.ld_unit_zero zeros2 _ x, show View.ld w r2_1 = w from View.ld_unit_zero zeros2 _ w]
    exact View.canon_unit_zero zeros2 _ _
  rw [e]
  exact pay_apply x w r o

variable (V : (c : Dev nD) → (b : Ref sig .tc) → Buf (Elt Ideal) ((c : Thread nD τ).loc b)) (c : Dev nD)

/-- The rows' block at point `t` starts at row `512 t`. -/
theorem idx_0 : ∀ t : Fin grid2.N, win2_0.index t 0 = t.val ∧ win2_0.index t 1 = 0 := by decide +kernel

/-- The rows' block, read. -/
theorem blk_0 (t : Fin cfg2.N) (r : Fin 512) (d : Fin 768) (i : Fin 2048) (hi : i.val = t.val * 512 + r.val) :
    (iblk2 V c 0 t : Vec Ideal S512x768 .f32) (ix2 r d) = (V c main_v32 : Vec Ideal S2048x768 .f32) (ix2 i d) := by
  show (V c main_v32 : Vec Ideal S2048x768 .f32) ((win2_0.rect t).emb (ix2 r d)) = _
  refine congrArg _ (funext (Fin.forall_fin_two.2 ⟨Fin.ext ?_, Fin.ext ?_⟩))
  · refine (Window.rect_emb_val win2_0 t (ix2 r d) 0).trans ?_
    rw [(idx_0 t).1]; exact hi.symm
  · refine (Window.rect_emb_val win2_0 t (ix2 r d) 1).trans ?_
    rw [(idx_0 t).2]; exact Nat.zero_add _

/-- The weights are one block. -/
theorem idx_1 : ∀ (t : Fin grid2.N) (a : Fin 2), win2_1.index t a = 0 := by decide +kernel

/-- The weights' block is the array. -/
theorem blk_1 (t : Fin cfg2.N) : (iblk2 V c 1 t : Vec Ideal S768x768 .f32) = V c main_arg10 :=
  funext fun y => congrArg (V c main_arg10 : Vec Ideal S768x768 .f32) (funext fun a =>
    Fin.ext (Window.rect_emb_val_of_index_zero win2_1 t a (idx_1 t a) y))

/-- The written block at point `t` starts at row `512 t`. -/
theorem idx_2 : ∀ t : Fin grid2.N, win2_2.index t 0 = t.val ∧ win2_2.index t 1 = 0 := by decide +kernel

/-- The written blocks cover the array. -/
theorem cover_2 (i : ((cfg2.win 2).arr.view.loc (c.tc : Thread nD τ)).2.ty.Idx) :
    ∃ t : Fin cfg2.N, (cfg2.win 2).flush t = true ∧ i ∈ ((cfg2.win 2).blk t).view.set := by
  have hN : cfg2.N = 4 := N_2
  have h0 : (i 0).val < 2048 := (i 0).isLt
  have h1 : (i 1).val < 768 := (i 1).isLt
  obtain ⟨t, ht⟩ : ∃ t : Fin cfg2.N, t.val = (i 0).val / 512 := ⟨⟨(i 0).val / 512, by omega⟩, rfl⟩
  refine ⟨t, flush2_2 t, ?_⟩
  show i ∈ ((View.whole main_v33).slice ((cfg2.win 2).rect t)).set
  erw [View.set_slice_whole]
  refine (Pipeline.Window.mem_rect_iff win2_2 t i (by rfl)).mpr (Fin.forall_fin_two.2 ⟨?_, ?_⟩)
  · rw [(idx_2 t).1]
    show t.val * 512 ≤ (i 0).val ∧ (i 0).val < t.val * 512 + 512
    omega
  · rw [(idx_2 t).2]
    show 0 * 768 ≤ (i 1).val ∧ (i 1).val < 0 * 768 + 768
    omega

/-- What every block written has, the array has. -/
theorem arr_2 (P : S2048x768.Idx → EReal → Prop)
    (hP : ∀ (t : Fin cfg2.N) (y : S512x768.Idx) (i : S2048x768.Idx), (i 0).val = t.val * 512 + (y 0).val → i 1 = y 1 →
      P i (out2_2 (F := Ideal) (iblk2 V c 0 t) (iblk2 V c 1 t) y))
    (i : S2048x768.Idx) : P i ((dat2 V c).arrAt 2 cfg2.N i) := by
  refine (dat2 V c).arrAt_forall_of_cover 2 P (fun t _ y => ?_) (cover_2 c) i
  have h1 : (win2_2.rect t).emb y 1 = y 1 := Fin.ext (Window.rect_emb_val_of_index_zero win2_2 t 1 (idx_2 t).2 y)
  have h := hP t y ((win2_2.rect t).emb y) ((Window.rect_emb_val win2_2 t y 0).trans (by rw [(idx_2 t).1]; rfl)) h1
  have e : (dat2 V c).flushed 2 t y = (dat2 V c).after 2 t y := rfl
  rw [← after2_2 V c t, ← e] at h
  exact h

/-- The rows read, by coordinates. -/
abbrev rows (r : Fin 2048) (k : Fin 768) : EReal := (V c main_v32 : Vec Ideal S2048x768 .f32) (ix2 r k)

/-- The weights, by coordinates. -/
abbrev wo (o k : Fin 768) : EReal := (V c main_arg10 : Vec Ideal S768x768 .f32) (ix2 o k)

/-- The rows' product with the transposed weights. -/
abbrev prod (r : Fin 2048) (o : Fin 768) : EReal := ∑ k : Fin 768, rows V c r k * wo V c o k

/-- The projection launch's array holds the product. -/
theorem arr_proj (r : Fin 2048) (o : Fin 768) :
    ((dat2 V c).arrAt 2 cfg2.N : Vec Ideal S2048x768 .f32) (ix2 r o)
      = prod V c r o := by
  refine arr_2 V c (fun i v => ∀ (r : Fin 2048) (o : Fin 768), i = ix2 r o →
    v = prod V c r o) ?_ (ix2 r o) r o rfl
  intro t y i e0 e1 r o ei
  subst ei
  obtain ⟨y0, hy⟩ : ∃ y0 : Fin 512, y0 = y 0 := ⟨y 0, rfl⟩
  have ey : y = ix2 y0 o := funext (Fin.forall_fin_two.2 ⟨hy.symm, e1.symm⟩)
  rw [← hy] at e0
  rw [ey]
  refine (out_apply _ _ _ _).trans ?_
  rw [blk_1]
  exact Finset.sum_congr rfl fun k _ => by rw [blk_0 V c t y0 k r e0]

end Cert.KernelIdeal.Arr2
-- ==== Proof.KVal.lean ====
/- The kernel's seven results, entry by entry, as the routed-expert and attention functions of its arguments. -/
module

public import proofs.«01_k».proof.Proof.Host
public import proofs.«01_k».proof.Proof.Arr0
public import proofs.«01_k».proof.Proof.Arr1
public import proofs.«01_k».proof.Proof.Arr2

@[expose] public section

set_option maxRecDepth 16384

noncomputable section

namespace Cert.KernelIdeal.KVal

open Idealize.ShloMosaic Idealize.ShloMosaic.TcCoe Idealize.SL.Sem
open Cert.KernelIdeal Cert.KernelIdeal.Gen Cert.Spec
open scoped BigOperators

variable (m : (ℓ : Loc nD τ sig) → Buf (Elt Ideal) ℓ) (ρ : Dev nD → PrngReg) (c : Dev nD)

/-! ## The arguments by coordinates -/

/-- The input row of a position's head. -/
abbrev xr (t : Fin 2048) (h : Fin 12) (d : Fin 64) : EReal := (m ((c : Thread nD τ).loc main_arg0) : Vec Ideal S1x2048x768 .f32) (ix3 0 t (feat h d))

/-- The `q` prototypes. -/
abbrev pq (p : Fin 8) (d : Fin 64) : EReal := (m ((c : Thread nD τ).loc main_arg2) : Vec Ideal S8x64 .f32) (ix2 p d)

/-- The `q` gates. -/
abbrev gq (p : Fin 8) : EReal := (m ((c : Thread nD τ).loc main_arg3) : Vec Ideal S8 .f32) (ix1 p)

/-- The `k` prototypes. -/
abbrev pk (p : Fin 8) (d : Fin 64) : EReal := (m ((c : Thread nD τ).loc main_arg4) : Vec Ideal S8x64 .f32) (ix2 p d)

/-- The `k` gates. -/
abbrev gk (p : Fin 8) : EReal := (m ((c : Thread nD τ).loc main_arg5) : Vec Ideal S8 .f32) (ix1 p)

/-- The `v` prototypes. -/
abbrev pv (p : Fin 8) (d : Fin 64) : EReal := (m ((c : Thread nD τ).loc main_arg6) : Vec Ideal S8x64 .f32) (ix2 p d)

/-- The `v` gates. -/
abbrev gv (p : Fin 8) : EReal := (m ((c : Thread nD τ).loc main_arg7) : Vec Ideal S8 .f32) (ix1 p)

/-- The first-layer weights. -/
abbrev w1 (p : Fin 8) (d e : Fin 64) : EReal := (m ((c : Thread nD τ).loc main_arg8) : Vec Ideal S8x64x64 .f32) (ix3 p d e)

/-- The second-layer weights. -/
abbrev w2 (p : Fin 8) (e f : Fin 64) : EReal := (m ((c : Thread nD τ).loc main_arg9) : Vec Ideal S8x64x64 .f32) (ix3 p e f)

/-- The output weights. -/
abbrev wo (o k : Fin 768) : EReal := (m ((c : Thread nD τ).loc main_arg10) : Vec Ideal S768x768 .f32) (ix2 o k)

/-! ## What the routing launch finds -/

/-- An argument at the routing launch's entry. -/
theorem arg5 (a : Ref sig .tc) (ha : a ∈ argRefs) : V5 m ρ c a = m ((c : Thread nD τ).loc a) := W5_args m ρ c a ha

/-- The input rows. -/
theorem x5 (t : Fin 2048) (h : Fin 12) (d : Fin 64) : Arr0.xf (V5 m ρ) c (pos t h) d = xr m c t h d := by
  have e : W5 m ρ c (Proc.devRef .tc main_v0) = W1 m ρ c (Proc.devRef .tc main_v0) :=
    (W5_of m ρ c main_v0 (by decide)).trans ((W4_of m ρ c main_v0 (by decide)).trans ((W3_of m ρ c main_v0 (by decide)).trans (W2_of m ρ c main_v0 (by decide))))
  exact (congrFun e _).trans (HostRead.v0_apply (W0 m ρ c) t h d)

/-- The first-layer weights. -/
theorem w5 (d : Fin 64) (p : Fin 8) (e : Fin 64) : Arr0.w1c (V5 m ρ) c d (col p e) = w1 m c p d e := by
  have e' : W5 m ρ c (Proc.devRef .tc main_v2) = W1 m ρ c (Proc.devRef .tc main_v2) :=
    (W5_of m ρ c main_v2 (by decide)).trans ((W4_of m ρ c main_v2 (by decide)).trans ((W3_of m ρ c main_v2 (by decide)).trans (W2_of m ρ c main_v2 (by decide))))
  exact (congrFun e' _).trans (HostRead.v2_apply (W0 m ρ c) d p e)

/-- The expert's indicator. -/
theorem f5 (q : Fin 8) (f : Fin 64) (p : Fin 8) : Arr0.fm (V5 m ρ) c (col q f) p = if q = p then 1 else 0 := by
  have e : W5 m ρ c (Proc.devRef .tc main_v11) = W3 m ρ c (Proc.devRef .tc main_v11) :=
    (W5_of m ρ c main_v11 (by decide)).trans (W4_of m ρ c main_v11 (by decide))
  have e5 : (W2 m ρ c (Proc.devRef .tc main_v5) : IVec S512x1 32) (ix2 (col q f) 0) = BitVec.ofNat 32 ((col q f).val / 64) :=
    (HostRead.v5_apply (W1 m ρ c) (col q f)).trans ((congrArg₂ HostRead.fdiv (HostRead.v4_apply (W0 m ρ c) (col q f)) (HostRead.c_apply (W0 m ρ c) ix0)).trans
      (HostRead.fdiv_64 (col q f)))
  have hh : (W2 m ρ c (Proc.devRef .tc main_v5) : IVec S512x1 32) (ix2 (col q f) 0) = BitVec.ofNat 32 p.val ↔ q = p := by
    rw [e5, ← BitVec.toNat_inj, BitVec.toNat_ofNat, BitVec.toNat_ofNat, Fin.ext_iff]
    show (64 * q.val + f.val) / 64 % 2 ^ 32 = p.val % 2 ^ 32 ↔ q.val = p.val
    omega
  exact (congrFun e _).trans ((HostRead.v11_apply (W2 m ρ c) (col q f) p).trans (if_congr hh rfl rfl))

/-- The feature's indicator. -/
theorem e5 (q : Fin 8) (f : Fin 64) (d : Fin 64) : Arr0.em (V5 m ρ) c (col q f) d = if f = d then 1 else 0 := by
  have e3 : (W3 m ρ c (Proc.devRef .tc main_v12) : IVec S512x1 32) (ix2 (col q f) 0) = BitVec.ofNat 32 (col q f).val :=
    (HostRead.v12_apply (W2 m ρ c) (col q f)).trans ((congrFun (W2_of m ρ c main_v3 (by decide)) _).trans (congrFun (HostRead.v3_eq (W0 m ρ c)) _))
  have e4 : (W4 m ρ c (Proc.devRef .tc main_v13) : IVec S512x1 32) (ix2 (col q f) 0) = BitVec.ofNat 32 ((col q f).val % 64) :=
    (HostRead.v13_apply (W3 m ρ c) (col q f)).trans ((congrArg₂ HostRead.fmod e3 (HostRead.c0_apply (W2 m ρ c) ix0)).trans
      (HostRead.fmod_64 (col q f)))
  have hh : (W4 m ρ c (Proc.devRef .tc main_v13) : IVec S512x1 32) (ix2 (col q f) 0) = BitVec.ofNat 32 d.val ↔ f = d := by
    rw [e4, ← BitVec.toNat_inj, BitVec.toNat_ofNat, BitVec.toNat_ofNat, Fin.ext_iff]
    show (64 * q.val + f.val) % 64 % 2 ^ 32 = d.val % 2 ^ 32 ↔ f.val = d.val
    omega
  exact (HostRead.v19_apply (W4 m ρ c) (col q f) d).trans (if_congr hh rfl rfl)

/-- The `q` prototypes. -/
theorem pq5 : Body0.proto (V5 m ρ c main_arg2) = pq m c := by
  rw [arg5 m ρ c main_arg2 (by decide)]

/-- The `q` gates. -/
theorem gq5 : Body0.gates (V5 m ρ c main_v20) = gq m c := funext fun p =>
  (HostRead.v20_apply (W4 m ρ c) p).trans (congrFun (W4_args m ρ c main_arg3 (by decide)) _)

/-- The `k` prototypes. -/
theorem pk5 : Body0.proto (V5 m ρ c main_arg4) = pk m c := by
  rw [arg5 m ρ c main_arg4 (by decide)]

/-- The `k` gates. -/
theorem gk5 : Body0.gates (V5 m ρ c main_v21) = gk m c := funext fun p =>
  (HostRead.v21_apply (W4 m ρ c) p).trans (congrFun (W4_args m ρ c main_arg5 (by decide)) _)

/-- The `v` prototypes. -/
theorem pv5 : Body0.proto (V5 m ρ c main_arg6) = pv m c := by
  rw [arg5 m ρ c main_arg6 (by decide)]

/-- The `v` gates. -/
theorem gv5 : Body0.gates (V5 m ρ c main_v22) = gv m c := funext fun p =>
  (HostRead.v22_apply (W4 m ρ c) p).trans (congrFun (W4_args m ρ c main_arg7 (by decide)) _)

/-- The second-layer weights. -/
theorem w25 : Body0.wts (V5 m ρ c main_arg9) = w2 m c := by
  rw [arg5 m ρ c main_arg9 (by decide)]

/-! ## What the routing launch leaves -/

/-- The composed `q` rows. -/
theorem syn_q (t : Fin 2048) (h : Fin 12) (d : Fin 64) :
    (W6 m ρ c (Proc.devRef .tc main_v23_0) : Vec Ideal S24576x64 .f32) (ix2 (pos t h) d) = syn (xr m c t h) (pq m c) (gq m c) (w1 m c) (w2 m c) d := by
  have e : W6 m ρ c (Proc.devRef .tc main_v23_0) = (dat0 (V5 m ρ) c).arrAt 11 cfg0.N := W6_arr m ρ c 11
  refine (congrFun e _).trans ((Arr0.arr_syn_q (V5 m ρ) c (w1 m c) (w5 m ρ c) (f5 m ρ c) (e5 m ρ c) (pos t h) d).trans ?_)
  rw [pq5, gq5, w25, show Arr0.xf (V5 m ρ) c (pos t h) = xr m c t h from funext (x5 m ρ c t h)]

/-- The `q` logits. -/
theorem log_q (t : Fin 2048) (h : Fin 12) (p : Fin 8) :
    (W6 m ρ c (Proc.devRef .tc main_v23_3) : Vec Ideal S8x24576 .f32) (ix2 p (pos t h)) = logit (xr m c t h) (pq m c) (gq m c) p := by
  have e : W6 m ρ c (Proc.devRef .tc main_v23_3) = (dat0 (V5 m ρ) c).arrAt 14 cfg0.N := W6_arr m ρ c 14
  refine (congrFun e _).trans ((Arr0.arr_log_q (V5 m ρ) c p (pos t h)).trans ?_)
  rw [pq5, gq5, show Arr0.xf (V5 m ρ) c (pos t h) = xr m c t h from funext (x5 m ρ c t h)]

/-- The `q` strengths. -/
theorem raw_q (t : Fin 2048) (h : Fin 12) (p : Fin 8) :
    (W6 m ρ c (Proc.devRef .tc main_v23_6) : Vec Ideal S8x24576 .f32) (ix2 p (pos t h)) = raw (xr m c t h) (pq m c) (gq m c) (w1 m c) (w2 m c) p := by
  have e : W6 m ρ c (Proc.devRef .tc main_v23_6) = (dat0 (V5 m ρ) c).arrAt 17 cfg0.N := W6_arr m ρ c 17
  refine (congrFun e _).trans ((Arr0.arr_raw_q (V5 m ρ) c (w1 m c) (w5 m ρ c) (f5 m ρ c) p (pos t h)).trans ?_)
  rw [pq5, gq5, w25, show Arr0.xf (V5 m ρ) c (pos t h) = xr m c t h from funext (x5 m ρ c t h)]

/-- The composed `k` rows. -/
theorem syn_k (t : Fin 2048) (h : Fin 12) (d : Fin 64) :
    (W6 m ρ c (Proc.devRef .tc main_v23_1) : Vec Ideal S24576x64 .f32) (ix2 (pos t h) d) = syn (xr m c t h) (pk m c) (gk m c) (w1 m c) (w2 m c) d := by
  have e : W6 m ρ c (Proc.devRef .tc main_v23_1) = (dat0 (V5 m ρ) c).arrAt 12 cfg0.N := W6_arr m ρ c 12
  refine (congrFun e _).trans ((Arr0.arr_syn_k (V5 m ρ) c (w1 m c) (w5 m ρ c) (f5 m ρ c) (e5 m ρ c) (pos t h) d).trans ?_)
  rw [pk5, gk5, w25, show Arr0.xf (V5 m ρ) c (pos t h) = xr m c t h from funext (x5 m ρ c t h)]

/-- The `k` logits. -/
theorem log_k (t : Fin 2048) (h : Fin 12) (p : Fin 8) :
    (W6 m ρ c (Proc.devRef .tc main_v23_4) : Vec Ideal S8x24576 .f32) (ix2 p (pos t h)) = logit (xr m c t h) (pk m c) (gk m c) p := by
  have e : W6 m ρ c (Proc.devRef .tc main_v23_4) = (dat0 (V5 m ρ) c).arrAt 15 cfg0.N := W6_arr m ρ c 15
  refine (congrFun e _).trans ((Arr0.arr_log_k (V5 m ρ) c p (pos t h)).trans ?_)
  rw [pk5, gk5, show Arr0.xf (V5 m ρ) c (pos t h) = xr m c t h from funext (x5 m ρ c t h)]

/-- The `k` strengths. -/
theorem raw_k (t : Fin 2048) (h : Fin 12) (p : Fin 8) :
    (W6 m ρ c (Proc.devRef .tc main_v23_7) : Vec Ideal S8x24576 .f32) (ix2 p (pos t h)) = raw (xr m c t h) (pk m c) (gk m c) (w1 m c) (w2 m c) p := by
  have e : W6 m ρ c (Proc.devRef .tc main_v23_7) = (dat0 (V5 m ρ) c).arrAt 18 cfg0.N := W6_arr m ρ c 18
  refine (congrFun e _).trans ((Arr0.arr_raw_k (V5 m ρ) c (w1 m c) (w5 m ρ c) (f5 m ρ c) p (pos t h)).trans ?_)
  rw [pk5, gk5, w25, show Arr0.xf (V5 m ρ) c (pos t h) = xr m c t h from funext (x5 m ρ c t h)]

/-- The composed `v` rows. -/
theorem syn_v (t : Fin 2048) (h : Fin 12) (d : Fin 64) :
    (W6 m ρ c (Proc.devRef .tc main_v23_2) : Vec Ideal S24576x64 .f32) (ix2 (pos t h) d) = syn (xr m c t h) (pv m c) (gv m c) (w1 m c) (w2 m c) d := by
  have e : W6 m ρ c (Proc.devRef .tc main_v23_2) = (dat0 (V5 m ρ) c).arrAt 13 cfg0.N := W6_arr m ρ c 13
  refine (congrFun e _).trans ((Arr0.arr_syn_v (V5 m ρ) c (w1 m c) (w5 m ρ c) (f5 m ρ c) (e5 m ρ c) (pos t h) d).trans ?_)
  rw [pv5, gv5, w25, show Arr0.xf (V5 m ρ) c (pos t h) = xr m c t h from funext (x5 m ρ c t h)]

/-- The `v` logits. -/
theorem log_v (t : Fin 2048) (h : Fin 12) (p : Fin 8) :
    (W6 m ρ c (Proc.devRef .tc main_v23_5) : Vec Ideal S8x24576 .f32) (ix2 p (pos t h)) = logit (xr m c t h) (pv m c) (gv m c) p := by
  have e : W6 m ρ c (Proc.devRef .tc main_v23_5) = (dat0 (V5 m ρ) c).arrAt 16 cfg0.N := W6_arr m ρ c 16
  refine (congrFun e _).trans ((Arr0.arr_log_v (V5 m ρ) c p (pos t h)).trans ?_)
  rw [pv5, gv5, show Arr0.xf (V5 m ρ) c (pos t h) = xr m c t h from funext (x5 m ρ c t h)]

/-- The `v` strengths. -/
theorem raw_v (t : Fin 2048) (h : Fin 12) (p : Fin 8) :
    (W6 m ρ c (Proc.devRef .tc main_v23_8) : Vec Ideal S8x24576 .f32) (ix2 p (pos t h)) = raw (xr m c t h) (pv m c) (gv m c) (w1 m c) (w2 m c) p := by
  have e : W6 m ρ c (Proc.devRef .tc main_v23_8) = (dat0 (V5 m ρ) c).arrAt 19 cfg0.N := W6_arr m ρ c 19
  refine (congrFun e _).trans ((Arr0.arr_raw_v (V5 m ρ) c (w1 m c) (w5 m ρ c) (f5 m ρ c) p (pos t h)).trans ?_)
  rw [pv5, gv5, w25, show Arr0.xf (V5 m ρ) c (pos t h) = xr m c t h from funext (x5 m ρ c t h)]

/-! ## The later launches -/

/-- The `q` matrix of a head. -/
abbrev hq (h : Fin 12) (t : Fin 2048) (d : Fin 64) : EReal := syn (xr m c t h) (pq m c) (gq m c) (w1 m c) (w2 m c) d

/-- The `q` heads the attention launch finds. -/
theorem head_q (h : Fin 12) : Arr1.head (V7 m ρ c main_v25) h = hq m c h := funext fun t => funext fun d =>
  (HostRead.v25_apply (W6 m ρ c) h t d).trans (syn_q m ρ c t h d)

/-- The `k` matrix of a head. -/
abbrev hk (h : Fin 12) (t : Fin 2048) (d : Fin 64) : EReal := syn (xr m c t h) (pk m c) (gk m c) (w1 m c) (w2 m c) d

/-- The `k` heads the attention launch finds. -/
theorem head_k (h : Fin 12) : Arr1.head (V7 m ρ c main_v27) h = hk m c h := funext fun t => funext fun d =>
  (HostRead.v27_apply (W6 m ρ c) h t d).trans (syn_k m ρ c t h d)

/-- The `v` matrix of a head. -/
abbrev hv (h : Fin 12) (t : Fin 2048) (d : Fin 64) : EReal := syn (xr m c t h) (pv m c) (gv m c) (w1 m c) (w2 m c) d

/-- The `v` heads the attention launch finds. -/
theorem head_v (h : Fin 12) : Arr1.head (V7 m ρ c main_v29) h = hv m c h := funext fun t => funext fun d =>
  (HostRead.v29_apply (W6 m ρ c) h t d).trans (syn_v m ρ c t h d)

/-- The attention launch's array. -/
theorem att8 (h : Fin 12) (t : Fin 2048) (d : Fin 64) :
    (W8 m ρ c (Proc.devRef .tc main_v30) : Vec Ideal S12x2048x64 .f32) (ix3 h t d) = headOnce (hq m c h) (hk m c h) (hv m c h) t d := by
  have e : W8 m ρ c (Proc.devRef .tc main_v30) = (dat1 (V7 m ρ) c).arrAt 3 cfg1.N := W8_arr m ρ c 3
  refine (congrFun e _).trans ((Arr1.arr_att (V7 m ρ) c h t d).trans ?_)
  rw [head_q, head_k, head_v]

/-- The rows the projection launch finds. -/
theorem rows9 (t : Fin 2048) (k : Fin 768) :
    Arr2.rows (V9 m ρ) c t k = headOnce (hq m c (hd k)) (hk m c (hd k)) (hv m c (hd k)) t (ft k) := by
  have e := (HostRead.v32_apply (W8 m ρ c) t (hd k) (ft k)).trans (att8 m ρ c (hd k) t (ft k))
  rw [feat_hd_ft] at e
  exact e

/-- The output. -/
theorem out11 (t : Fin 2048) (o : Fin 768) :
    (W11 m ρ c (Proc.devRef .tc main_v34) : Vec Ideal S1x2048x768 .f32) (ix3 0 t o)
      = ∑ k : Fin 768, headOnce (hq m c (hd k)) (hk m c (hd k)) (hv m c (hd k)) t (ft k) * wo m c o k := by
  have e : W10 m ρ c (Proc.devRef .tc main_v33) = (dat2 (V9 m ρ) c).arrAt 2 cfg2.N := W10_arr m ρ c 2
  have ew : V9 m ρ c main_arg10 = m ((c : Thread nD τ).loc main_arg10) := W9_args m ρ c main_arg10 (by decide)
  have ep : Arr2.prod (V9 m ρ) c t o = ∑ k : Fin 768, headOnce (hq m c (hd k)) (hk m c (hd k)) (hv m c (hd k)) t (ft k) * wo m c o k :=
    Finset.sum_congr rfl fun k _ => congrArg₂ (fun a b : EReal => a * b) (rows9 m ρ c t k) (congrFun ew _)
  exact (HostRead.v34_apply (W10 m ρ c) t o).trans ((congrFun e _).trans ((Arr2.arr_proj (V9 m ρ) c t o).trans ep))

/-- The array of `q` logits passes the later launches. -/
theorem keep_log_q : W10 m ρ c (Proc.devRef .tc main_v23_3) = W6 m ρ c (Proc.devRef .tc main_v23_3) :=
  (W10_of_ne m ρ c main_v23_3 (by decide)).trans ((W9_of m ρ c main_v23_3 (by decide)).trans
    ((W8_of_ne m ρ c main_v23_3 (by decide)).trans (W7_of m ρ c main_v23_3 (by decide))))

/-- The `q` logits returned. -/
theorem log11_q (t : Fin 2048) (h : Fin 12) (p : Fin 8) :
    (W11 m ρ c (Proc.devRef .tc main_v36) : Vec Ideal S1x2048x12x8 .f32) (ix4 0 t h p) = logit (xr m c t h) (pq m c) (gq m c) p :=
  (HostRead.v36_apply (W10 m ρ c) t h p).trans ((congrFun (keep_log_q m ρ c) _).trans (log_q m ρ c t h p))

/-- The array of `q` strengths passes the later launches. -/
theorem keep_raw_q : W10 m ρ c (Proc.devRef .tc main_v23_6) = W6 m ρ c (Proc.devRef .tc main_v23_6) :=
  (W10_of_ne m ρ c main_v23_6 (by decide)).trans ((W9_of m ρ c main_v23_6 (by decide)).trans
    ((W8_of_ne m ρ c main_v23_6 (by decide)).trans (W7_of m ρ c main_v23_6 (by decide))))

/-- The `q` strengths returned. -/
theorem raw11_q (t : Fin 2048) (h : Fin 12) (p : Fin 8) :
    (W11 m ρ c (Proc.devRef .tc main_v41) : Vec Ideal S24576x8 .f32) (ix2 (pos t h) p) = raw (xr m c t h) (pq m c) (gq m c) (w1 m c) (w2 m c) p :=
  (HostRead.v41_apply (W10 m ρ c) (pos t h) p).trans ((congrFun (keep_raw_q m ρ c) _).trans (raw_q m ρ c t h p))

/-- The array of `k` logits passes the later launches. -/
theorem keep_log_k : W10 m ρ c (Proc.devRef .tc main_v23_4) = W6 m ρ c (Proc.devRef .tc main_v23_4) :=
  (W10_of_ne m ρ c main_v23_4 (by decide)).trans ((W9_of m ρ c main_v23_4 (by decide)).trans
    ((W8_of_ne m ρ c main_v23_4 (by decide)).trans (W7_of m ρ c main_v23_4 (by decide))))

/-- The `k` logits returned. -/
theorem log11_k (t : Fin 2048) (h : Fin 12) (p : Fin 8) :
    (W11 m ρ c (Proc.devRef .tc main_v38) : Vec Ideal S1x2048x12x8 .f32) (ix4 0 t h p) = logit (xr m c t h) (pk m c) (gk m c) p :=
  (HostRead.v38_apply (W10 m ρ c) t h p).trans ((congrFun (keep_log_k m ρ c) _).trans (log_k m ρ c t h p))

/-- The array of `k` strengths passes the later launches. -/
theorem keep_raw_k : W10 m ρ c (Proc.devRef .tc main_v23_7) = W6 m ρ c (Proc.devRef .tc main_v23_7) :=
  (W10_of_ne m ρ c main_v23_7 (by decide)).trans ((W9_of m ρ c main_v23_7 (by decide)).trans
    ((W8_of_ne m ρ c main_v23_7 (by decide)).trans (W7_of m ρ c main_v23_7 (by decide))))

/-- The `k` strengths returned. -/
theorem raw11_k (t : Fin 2048) (h : Fin 12) (p : Fin 8) :
    (W11 m ρ c (Proc.devRef .tc main_v42) : Vec Ideal S24576x8 .f32) (ix2 (pos t h) p) = raw (xr m c t h) (pk m c) (gk m c) (w1 m c) (w2 m c) p :=
  (HostRead.v42_apply (W10 m ρ c) (pos t h) p).trans ((congrFun (keep_raw_k m ρ c) _).trans (raw_k m ρ c t h p))

/-- The array of `v` logits passes the later launches. -/
theorem keep_log_v : W10 m ρ c (Proc.devRef .tc main_v23_5) = W6 m ρ c (Proc.devRef .tc main_v23_5) :=
  (W10_of_ne m ρ c main_v23_5 (by decide)).trans ((W9_of m ρ c main_v23_5 (by decide)).trans
    ((W8_of_ne m ρ c main_v23_5 (by decide)).trans (W7_of m ρ c main_v23_5 (by decide))))

/-- The `v` logits returned. -/
theorem log11_v (t : Fin 2048) (h : Fin 12) (p : Fin 8) :
    (W11 m ρ c (Proc.devRef .tc main_v40) : Vec Ideal S1x2048x12x8 .f32) (ix4 0 t h p) = logit (xr m c t h) (pv m c) (gv m c) p :=
  (HostRead.v40_apply (W10 m ρ c) t h p).trans ((congrFun (keep_log_v m ρ c) _).trans (log_v m ρ c t h p))

/-- The array of `v` strengths passes the later launches. -/
theorem keep_raw_v : W10 m ρ c (Proc.devRef .tc main_v23_8) = W6 m ρ c (Proc.devRef .tc main_v23_8) :=
  (W10_of_ne m ρ c main_v23_8 (by decide)).trans ((W9_of m ρ c main_v23_8 (by decide)).trans
    ((W8_of_ne m ρ c main_v23_8 (by decide)).trans (W7_of m ρ c main_v23_8 (by decide))))

/-- The `v` strengths returned. -/
theorem raw11_v (t : Fin 2048) (h : Fin 12) (p : Fin 8) :
    (W11 m ρ c (Proc.devRef .tc main_v43) : Vec Ideal S24576x8 .f32) (ix2 (pos t h) p) = raw (xr m c t h) (pv m c) (gv m c) (w1 m c) (w2 m c) p :=
  (HostRead.v43_apply (W10 m ρ c) (pos t h) p).trans ((congrFun (keep_raw_v m ρ c) _).trans (raw_v m ρ c t h p))

end Cert.KernelIdeal.KVal
-- ==== Proof.Eq.lean ====
/- On finite inputs, dividing an attention head once is dividing every weight: the row's total weight is a positive real. -/
module

public import proofs.«01_k».proof.Proof.Spec

@[expose] public section

noncomputable section

namespace Cert.Spec

open Idealize.ShloMosaic
open scoped BigOperators

/-- An extended real that is a real number. -/
def IsReal (a : EReal) : Prop := ∃ r : ℝ, a = (r : EReal)

/-- A number whose absolute value lies below plus infinity is real. -/
theorem isReal_of_abs {a : EReal} (h : max a (-a) < ⊤) : IsReal a := by
  induction a using EReal.rec with
  | bot => simp at h
  | top => simp at h
  | coe r => exact ⟨r, rfl⟩

theorem IsReal.zero : IsReal 0 := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases le_total a b with h | h
  · rwa [max_eq_right h]
  · rwa [max_eq_left h]

theorem IsReal.ite {c : Prop} [Decidable c] {a b : EReal} (ha : IsReal a) (hb : IsReal b) : IsReal (if c then a else b) := by
  split
  · exact ha
  · exact hb

theorem IsReal.sum {ι : Type} (s : Finset ι) {f : ι → EReal} (hf : ∀ i, IsReal (f i)) : IsReal (∑ i ∈ s, f i) := by
  classical
  induction s using Finset.induction_on with
  | empty => exact IsReal.zero
  | insert a s ha ih => rw [Finset.sum_insert ha]; exact (hf a).add ih

section Row
variable {x : Fin 64 → EReal} {pr : Fin 8 → Fin 64 → EReal} {g : Fin 8 → EReal} {W1 W2 : Fin 8 → Fin 64 → Fin 64 → EReal}

/-- A row composed from real inputs is real. -/
theorem syn_isReal (hx : ∀ d, IsReal (x d)) (hp : ∀ p d, IsReal (pr p d)) (hg : ∀ p, IsReal (g p))
    (h1 : ∀ p d e, IsReal (W1 p d e)) (h2 : ∀ p e f, IsReal (W2 p e f)) (f : Fin 64) : IsReal (syn x pr g W1 W2 f) := by
  have hl : ∀ p, IsReal (logit x pr g p) := fun p =>
    (((IsReal.sum _ fun d => (hx d).mul (hp p d)).mul ⟨1 / 8, rfl⟩).sub (hg p)).max IsReal.zero
  have hh : ∀ p e, IsReal (hid x W1 p e) := fun p e => (IsReal.sum _ fun d => (hx d).mul (h1 p d e)).max IsReal.zero
  exact IsReal.sum _ fun p => (IsReal.sum _ fun e => (hh p e).mul (h2 p e f)).mul ((hl p).ite IsReal.zero)

end Row

/-- A real nonnegative factor moves into a finite sum of any extended reals. -/
theorem sum_mul_coe {ι : Type} (s : Finset ι) (c : ℝ) (hc : 0 ≤ c) (f : ι → EReal) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- Real nonnegative numbers add up to a real number that none of them exceeds. -/
theorem sum_nonneg_real {ι : Type} (s : Finset ι) (f : ι → EReal) (hf : ∀ i, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    obtain ⟨r, hr, e⟩ := ih
    obtain ⟨q, hq, e'⟩ := hf a
    exact ⟨q + r, add_nonneg hq hr, by rw [Finset.sum_insert ha, e, e', EReal.coe_add]⟩

section Head
variable {q k : Fin 2048 → Fin 64 → EReal} (hq : ∀ t d, IsReal (q t d)) (hk : ∀ t d, IsReal (k t d))
include hq hk

/-- A score is real on and before the diagonal. -/
theorem score_isReal {t u : Fin 2048} (h : u ≤ t) : IsReal (score q k t u) := by
  unfold score
  rw [if_pos h]
  exact (IsReal.sum _ fun d => (hq t d).mul (hk u d)).mul ⟨1 / 8, rfl⟩

/-- A row's greatest score is real. -/
theorem top_isReal (t : Fin 2048) : IsReal (top q k t) := by
  have lo : score q k t t ≤ top q k t := by
    unfold top
    exact (Finset.le_fold_max _).2 (Or.inr ⟨t, Finset.mem_univ t, le_rfl⟩)
  have hi : top q k t < ⊤ := by
    unfold top
    refine (Finset.fold_max_lt _).2 ⟨bot_lt_top, fun u _ => ?_⟩
    by_cases h : u ≤ t
    · obtain ⟨r, e⟩ := score_isReal hq hk h
      rw [e]; exact EReal.coe_lt_top r
    · unfold score
      rw [if_neg h]; exact bot_lt_top
  obtain ⟨r, e⟩ := score_isReal hq hk (le_refl t)
  rw [e] at lo
  refine ⟨(top q k t).toReal, (EReal.coe_toReal hi.ne fun hb => ?_).symm⟩
  rw [hb] at lo
  exact absurd lo (not_le.2 (EReal.bot_lt_coe r))

/-- On and before the diagonal a weight is a positive real. -/
theorem wt_pos {t u : Fin 2048} (h : u ≤ t) : ∃ r : ℝ, 0 < r ∧ wt q k t u = (r : EReal) := by
  obtain ⟨m, em⟩ := top_isReal hq hk t
  obtain ⟨s, es⟩ := score_isReal hq hk h
  refine ⟨Real.exp (s - m), Real.exp_pos _, ?_⟩
  unfold wt
  rw [em, es, ← EReal.coe_sub]
  rfl

/-- Every weight is a nonnegative real. -/
theorem wt_nonneg (t u : Fin 2048) : ∃ r : ℝ, 0 ≤ r ∧ wt q k t u = (r : EReal) := by
  by_cases h : u ≤ t
  · obtain ⟨r, hr, e⟩ := wt_pos hq hk h
    exact ⟨r, hr.le, e⟩
  · refine ⟨0, le_rfl, ?_⟩
    unfold wt score
    rw [if_neg h, EReal.bot_sub]
    rfl

/-- A row's total weight is a positive real. -/
theorem mass_pos (t : Fin 2048) : ∃ r : ℝ, 0 < r ∧ mass q k t = (r : EReal) := by
  obtain ⟨a, ha, ea⟩ := wt_pos hq hk (le_refl t)
  obtain ⟨b, hb, eb⟩ := sum_nonneg_real (Finset.univ.erase t) (wt q k t) (wt_nonneg hq hk t)
  refine ⟨a + b, add_pos_of_pos_of_nonneg ha hb, ?_⟩
  unfold mass
  rw [← Finset.add_sum_erase _ _ (Finset.mem_univ t), ea, eb, EReal.coe_add]

/-- Dividing once is dividing every weight, whatever the values are. -/
theorem headOnce_eq (v : Fin 2048 → Fin 64 → EReal) (t : Fin 2048) (d : Fin 64) : headOnce q k v t d = headEach q k v t d := by
  obtain ⟨r, hr, e⟩ := mass_pos hq hk t
  unfold headOnce headEach
  rw [e, Ideal.div_coe hr.ne', sum_mul_coe _ _ (by positivity)]
  refine Finset.sum_congr rfl fun u _ => ?_
  rw [Ideal.div_coe hr.ne', mul_right_comm]

end Head

end Cert.Spec
-- ==== Proof.Finite.lean ====
/- What the precondition says: the inputs of the query and key routes are real numbers, entry by entry. -/
module

public import proofs.«01_k».proof.Defs
public import proofs.«01_k».proof.Proof.Gen.Pre_finite_inputs
public import proofs.«01_k».proof.Proof.KVal
public import proofs.«01_k».proof.Proof.Eq

@[expose] public section

set_option maxRecDepth 16384

noncomputable section

namespace Cert.KernelIdeal.Finite

open Idealize.ShloMosaic Idealize.ShloMosaic.TcCoe Idealize.SL.Sem
open Cert.KernelIdeal Cert.KernelIdeal.Gen Cert.Spec Cert.KernelIdeal.KVal

/-- The comparison bit of an absolute value against plus infinity is set only at a real number. -/
theorem isReal_of_bit (a : Ideal .f32)
    (h : FloatOps.cmpf (F := Ideal) .olt (FloatOps.absf a) (FloatOps.ofBits .f32 0x7F800000#32) = 1#1) : IsReal a := by
  have e : (FloatOps.cmpf (F := Ideal) .olt (FloatOps.absf a) (FloatOps.ofBits .f32 0x7F800000#32) : BitVec 1)
      = BitVec.ofBool (decide (max a (-a) < Ideal.ofBits .f32 0x7F800000#32)) := rfl
  rw [e, ofBits_posInf] at h
  apply isReal_of_abs
  by_contra hc
  rw [decide_eq_false hc] at h
  exact absurd h (by decide)

variable {m : (ℓ : Loc nD τ sig) → Buf (Elt Ideal) ℓ} (H : Cert.Pre_KernelIdeal_finite_inputs m) (c : Dev nD)
include H

/-- The input is real. -/
theorem x_real (t : Fin 2048) (h : Fin 12) (d : Fin 64) : IsReal (xr m c t h d) := isReal_of_bit _ (congrFun (H c).1 (ix3 0 t (feat h d)))

/-- The query prototypes are real. -/
theorem pq_real (p : Fin 8) (d : Fin 64) : IsReal (pq m c p d) := isReal_of_bit _ (congrFun (H c).2.1 (ix2 p d))

/-- The query gates are real. -/
theorem gq_real (p : Fin 8) : IsReal (gq m c p) := isReal_of_bit _ (congrFun (H c).2.2.1 (ix1 p))

/-- The key prototypes are real. -/
theorem pk_real (p : Fin 8) (d : Fin 64) : IsReal (pk m c p d) := isReal_of_bit _ (congrFun (H c).2.2.2.1 (ix2 p d))

/-- The key gates are real. -/
theorem gk_real (p : Fin 8) : IsReal (gk m c p) := isReal_of_bit _ (congrFun (H c).2.2.2.2.1 (ix1 p))

/-- The first-layer weights are real. -/
theorem w1_real (p : Fin 8) (d e : Fin 64) : IsReal (w1 m c p d e) := isReal_of_bit _ (congrFun (H c).2.2.2.2.2.1 (ix3 p d e))

/-- The second-layer weights are real. -/
theorem w2_real (p : Fin 8) (e f : Fin 64) : IsReal (w2 m c p e f) := isReal_of_bit _ (congrFun (H c).2.2.2.2.2.2 (ix3 p e f))

/-- The query heads are real. -/
theorem hq_real (h : Fin 12) (t : Fin 2048) (d : Fin 64) : IsReal (hq m c h t d) :=
  syn_isReal (x_real H c t h) (pq_real H c) (gq_real H c) (w1_real H c) (w2_real H c) d

/-- The key heads are real. -/
theorem hk_real (h : Fin 12) (t : Fin 2048) (d : Fin 64) : IsReal (hk m c h t d) :=
  syn_isReal (x_real H c t h) (pk_real H c) (gk_real H c) (w1_real H c) (w2_real H c) d

end Cert.KernelIdeal.Finite
-- ==== Proof.Ref.lean ====
/- The reference's routing, entry by entry, as the routed-expert functions of its arguments. -/
module

public import proofs.«01_k».proof.Proof.Coord
public import proofs.«01_k».proof.Proof.Gen.ReferenceIdeal.Read
public import Idealize.ShloMosaic.Lib.Pointwise

@[expose] public section

set_option maxRecDepth 16384

noncomputable section

namespace Cert.ReferenceIdeal.Ref

open Idealize.ShloMosaic Cert.ReferenceIdeal Cert.ReferenceIdeal.Gen Cert.ReferenceIdeal.Read Cert.Spec
open scoped BigOperators

/-- The input row of a position's head. -/
abbrev xr (x : Vec Ideal S1x2048x768 .f32) (t : Fin 2048) (h : Fin 12) (d : Fin 64) : EReal := x (ix3 0 t (feat h d))

/-- A prototype array by coordinates. -/
abbrev pr (w : Vec Ideal S8x64 .f32) (p : Fin 8) (d : Fin 64) : EReal := w (ix2 p d)

/-- A gate array by coordinates. -/
abbrev ga (g : Vec Ideal S8 .f32) (p : Fin 8) : EReal := g (ix1 p)

/-- A layer's weights by coordinates. -/
abbrev la (w : Vec Ideal S8x64x64 .f32) (p : Fin 8) (d e : Fin 64) : EReal := w (ix3 p d e)

variable (x : Vec Ideal S1x2048x768 .f32) (w : Vec Ideal S8x64 .f32) (g : Vec Ideal S8 .f32) (a b : Vec Ideal S8x64x64 .f32)

/-- A row's position. -/
theorem pos_div (t : Fin 2048) (h : Fin 12) (hh : (t.val * 12 + h.val) / 12 < 2048) : (⟨(t.val * 12 + h.val) / 12, hh⟩ : Fin 2048) = t :=
  Fin.ext (by show (t.val * 12 + h.val) / 12 = t.val; omega)

/-- A row's head. -/
theorem pos_mod (t : Fin 2048) (h : Fin 12) (hh : (t.val * 12 + h.val) % 12 < 12) : (⟨(t.val * 12 + h.val) % 12, hh⟩ : Fin 12) = h :=
  Fin.ext (by show (t.val * 12 + h.val) % 12 = h.val; omega)

/-- Multiplying by a comparison's bit selects. -/
theorem gate_bit (e l : EReal) : l * (FloatOps.uitofp FTy.f32 (BitVec.ofBool (decide (e < l))) : Ideal .f32) = (if e < l then l else 0 : EReal) := by
  by_cases hl : e < l
  · rw [if_pos hl, decide_eq_true hl]
    show l * (((1#1 : BitVec 1).toNat : ℝ) : EReal) = l
    norm_num
  · rw [if_neg hl, decide_eq_false hl]
    show l * (((0#1 : BitVec 1).toNat : ℝ) : EReal) = 0
    norm_num

/-- The input split into heads. -/
theorem v0_apply (t : Fin 2048) (h : Fin 12) (d : Fin 64) : (val_main_v0 x : Vec Ideal S1x2048x12x64 .f32) (ix4 0 t h d) = xr x t h d := by
  pointwise [val_main_v0]

/-- The routing score. -/
theorem v7_apply (t : Fin 2048) (h : Fin 12) (p : Fin 8) :
    (val_main_v7 x w g : Vec Ideal S1x2048x12x8 .f32) (ix4 0 t h p) = logit (xr x t h) (pr w) (ga g) p := by
  pointwise [val_main_v7, val_main_v6, val_main_v5, val_main_v4, val_main_v3, val_main_v2, val_main_v1, val_main_cst, val_main_call0_v0, val_main_call0_cst]
  simp only [v0_apply]
  rw [ofBits_eight, div_eight]
  rfl

/-- The routing score, row by row. -/
theorem v8_apply (t : Fin 2048) (h : Fin 12) (p : Fin 8) :
    (val_main_v8 x w g : Vec Ideal S24576x8 .f32) (ix2 (pos t h) p) = logit (xr x t h) (pr w) (ga g) p := by
  pointwise [val_main_v8]
  rw [pos_div, pos_mod]
  exact v7_apply x w g t h p

/-- The routing weight. -/
theorem v17_apply (t : Fin 2048) (h : Fin 12) (p : Fin 8) :
    (val_main_v17 x w g : Vec Ideal S24576x8 .f32) (ix2 (pos t h) p) = gate (xr x t h) (pr w) (ga g) p := by
  pointwise [val_main_v17, val_main_v11, val_main_v10, val_main_v9, val_main_cst_0]
  rw [v8_apply]
  exact gate_bit _ _

/-- The rows. -/
theorem v12_apply (t : Fin 2048) (h : Fin 12) (d : Fin 64) : (val_main_v12 x : Vec Ideal S24576x64 .f32) (ix2 (pos t h) d) = xr x t h d := by
  pointwise [val_main_v12]
  rw [pos_div, pos_mod]
  exact v0_apply x t h d

/-- The hidden layer. -/
theorem v14_apply (t : Fin 2048) (h : Fin 12) (p : Fin 8) (e : Fin 64) :
    (val_main_v14 x a : Vec Ideal S24576x8x64 .f32) (ix3 (pos t h) p e) = hid (xr x t h) (la a) p e := by
  pointwise [val_main_v14, val_main_v13, val_main_call1_v0, val_main_call1_cst]
  simp only [v12_apply]
  rfl

/-- The experts' outputs. -/
theorem v16_apply (t : Fin 2048) (h : Fin 12) (p : Fin 8) (f : Fin 64) :
    (val_main_v16 x a b : Vec Ideal S24576x8x64 .f32) (ix3 (pos t h) p f) = eo (xr x t h) (la a) (la b) p f := by
  pointwise [val_main_v16, val_main_v15]
  simp only [v14_apply]
  exact Finset.sum_congr rfl fun _ _ => mul_comm _ _

/-- The weighted outputs. -/
theorem v20_apply (t : Fin 2048) (h : Fin 12) (p : Fin 8) (f : Fin 64) :
    (val_main_v20 x w g a b : Vec Ideal S24576x8x64 .f32) (ix3 (pos t h) p f) = eo (xr x t h) (la a) (la b) p f * gate (xr x t h) (pr w) (ga g) p := by
  pointwise [val_main_v20, val_main_v19, val_main_v18]
  rw [v16_apply, v17_apply]

/-- The composed rows. -/
theorem v22_apply (t : Fin 2048) (h : Fin 12) (f : Fin 64) :
    (val_main_v22 x w g a b : Vec Ideal S1x2048x12x64 .f32) (ix4 0 t h f) = syn (xr x t h) (pr w) (ga g) (la a) (la b) f := by
  pointwise [val_main_v22, val_main_v21, val_main_cst_1]
  exact Finset.sum_congr rfl fun p _ => v20_apply x w g a b t h p f

/-- The norms. -/
theorem v25_apply (t : Fin 2048) (h : Fin 12) (p : Fin 8) :
    (val_main_v25 x w g a b : Vec Ideal S24576x8 .f32) (ix2 (pos t h) p) = raw (xr x t h) (pr w) (ga g) (la a) (la b) p := by
  pointwise [val_main_v25, val_main_v24, val_main_v23, val_main_cst_2]
  simp only [v20_apply]
  exact sqrt_sum_weighted _ (gate_nonneg _ _ _ _) _

end Cert.ReferenceIdeal.Ref
-- ==== Proof.RefAtt.lean ====
/- The reference's attention and output, entry by entry, as the attention functions of its routed rows. -/
module

public import proofs.«01_k».proof.Proof.Ref

@[expose] public section

set_option maxRecDepth 16384

noncomputable section

namespace Cert.ReferenceIdeal.RefAtt

open Idealize.ShloMosaic Cert.ReferenceIdeal Cert.ReferenceIdeal.Gen Cert.ReferenceIdeal.Read Cert.ReferenceIdeal.Ref Cert.Spec
open scoped BigOperators

variable (x : Vec Ideal S1x2048x768 .f32) (wq : Vec Ideal S8x64 .f32) (gq : Vec Ideal S8 .f32) (wk : Vec Ideal S8x64 .f32) (gk : Vec Ideal S8 .f32)
  (wv : Vec Ideal S8x64 .f32) (gv : Vec Ideal S8 .f32) (a b : Vec Ideal S8x64x64 .f32) (wo : Vec Ideal S768x768 .f32)

/-- A head's matrix of composed rows. -/
abbrev hm (w : Vec Ideal S8x64 .f32) (g : Vec Ideal S8 .f32) (h : Fin 12) (t : Fin 2048) (d : Fin 64) : EReal :=
  syn (xr x t h) (pr w) (ga g) (la a) (la b) d

/-- The query heads. -/
theorem v76_apply (h : Fin 12) (t : Fin 2048) (d : Fin 64) :
    (val_main_v76 x wq gq a b : Vec Ideal S1x12x2048x64 .f32) (ix4 0 h t d) = hm x a b wq gq h t d := by
  pointwise [val_main_v76]
  exact v22_apply x wq gq a b t h d

/-- The key heads. -/
theorem v77_apply (h : Fin 12) (t : Fin 2048) (d : Fin 64) :
    (val_main_v77 x wk gk a b : Vec Ideal S1x12x2048x64 .f32) (ix4 0 h t d) = hm x a b wk gk h t d := by
  pointwise [val_main_v77]
  exact v22_apply x wk gk a b t h d

/-- The value heads. -/
theorem v78_apply (h : Fin 12) (t : Fin 2048) (d : Fin 64) :
    (val_main_v78 x wv gv a b : Vec Ideal S1x12x2048x64 .f32) (ix4 0 h t d) = hm x a b wv gv h t d := by
  pointwise [val_main_v78]
  exact v22_apply x wv gv a b t h d

/-- The scaled scores. -/
theorem v81_apply (h : Fin 12) (t u : Fin 2048) :
    (val_main_v81 x wq gq wk gk a b : Vec Ideal S1x12x2048x2048 .f32) (ix4 0 h t u)
      = (∑ d : Fin 64, hm x a b wq gq h t d * hm x a b wk gk h u d) * ((1 / 8 : ℝ) : EReal) := by
  pointwise [val_main_v81, val_main_v80, val_main_v79, val_main_cst_11]
  simp only [v76_apply, v77_apply]
  rw [ofBits_eight, div_eight]

/-- Adding the zero word changes nothing. -/
theorem addi_zero (a : BitVec 32) : IntOp.addi a 0#32 = a := BitVec.add_zero a

/-- The causal mask. -/
theorem v83_apply (t u : Fin 2048) :
    (val_main_v83 (F := Ideal) : IVec S2048x2048 1) (ix2 t u) = if u ≤ t then 1#1 else 0#1 := by
  pointwise [val_main_v83, val_main_call6_v4, val_main_call6_v3, val_main_call6_v2, val_main_call6_v1, val_main_call6_v0, val_main_call6_c, val_main_call6_c_0, val_main_call6_v5, val_main_v82, val_main_c]
  rw [addi_zero, select_sge]

/-- Choosing by a decided bit. -/
theorem select_bit (c : Prop) [Decidable c] (y z : EReal) : Scalar.select (if c then 1#1 else 0#1) y z = if c then y else z := by
  by_cases hc : c
  · rw [if_pos hc, if_pos hc]; rfl
  · rw [if_neg hc, if_neg hc]; rfl

/-- The masked scores. -/
theorem v85_apply (h : Fin 12) (t u : Fin 2048) :
    (val_main_v85 x wq gq wk gk a b : Vec Ideal S1x12x2048x2048 .f32) (ix4 0 h t u) = score (hm x a b wq gq h) (hm x a b wk gk h) t u := by
  pointwise [val_main_v85, val_main_v84, val_main_call7_v1, val_main_call7_v2, val_main_call7_v0, val_main_cst_12]
  rw [v81_apply, v83_apply]
  exact (congrArg (Scalar.select _ _) ofBits_negInf).trans (select_bit _ _ _)

/-- The row maxima, read at an entry. -/
theorem v86_apply (h : Fin 12) (t : Fin 2048) :
    (val_main_v86 x wq gq wk gk a b : Vec Ideal S1x12x2048 .f32) (ix3 0 h t)
      = top (hm x a b wq gq h) (hm x a b wk gk h) t := by
  pointwise [val_main_v86, val_main_cst_13]
  rw [ofBits_negInf]
  have e : (fun u : Fin 2048 => (val_main_v85 x wq gq wk gk a b : Vec Ideal S1x12x2048x2048 .f32) (ix4 0 h t u))
      = fun u => score (hm x a b wq gq h) (hm x a b wk gk h) t u := funext fun u => v85_apply x wq gq wk gk a b h t u
  exact congrArg (fun f : Fin 2048 → EReal => Finset.univ.fold max ⊥ f) e

/-- Nothing lies below the least value. -/
theorem bot_max (c : EReal) : max ⊥ c = c := max_bot_left c

/-- The greater of two arrays, entry by entry. -/
theorem maximumf_at (y z : FVec Ideal S1x12x2048 .f32) (j : S1x12x2048.Idx) : maximumf y z j = max (y j) (z j) := rfl

/-- The bound below the row maxima is the least value. -/
theorem v87_apply (j : S1x12x2048.Idx) : (val_main_v87 (F := Ideal) : FVec Ideal S1x12x2048 .f32) j = ⊥ := ofBits_negInf

/-- The row maxima. -/
theorem v88_apply (h : Fin 12) (t : Fin 2048) :
    (val_main_v88 x wq gq wk gk a b : FVec Ideal S1x12x2048 .f32) (ix3 0 h t) = top (hm x a b wq gq h) (hm x a b wk gk h) t := by
  unfold val_main_v88
  refine (maximumf_at _ _ _).trans ?_
  rw [v87_apply, bot_max]
  exact v86_apply x wq gq wk gk a b h t

/-- The weights. -/
theorem v92_apply (h : Fin 12) (t u : Fin 2048) :
    (val_main_v92 x wq gq wk gk a b : Vec Ideal S1x12x2048x2048 .f32) (ix4 0 h t u) = wt (hm x a b wq gq h) (hm x a b wk gk h) t u := by
  pointwise [val_main_v92, val_main_v91, val_main_v90, val_main_v89]
  rw [v85_apply, v88_apply]
  rfl

/-- The row sums of the weights. -/
theorem v93_apply (h : Fin 12) (t : Fin 2048) :
    (val_main_v93 x wq gq wk gk a b : Vec Ideal S1x12x2048 .f32) (ix3 0 h t) = mass (hm x a b wq gq h) (hm x a b wk gk h) t := by
  pointwise [val_main_v93, val_main_cst_15]
  exact Finset.sum_congr rfl fun u _ => v92_apply x wq gq wk gk a b h t u

/-- The attention weights. -/
theorem v96_apply (h : Fin 12) (t u : Fin 2048) :
    (val_main_v96 x wq gq wk gk a b : Vec Ideal S1x12x2048x2048 .f32) (ix4 0 h t u)
      = Ideal.div (wt (hm x a b wq gq h) (hm x a b wk gk h) t u) (mass (hm x a b wq gq h) (hm x a b wk gk h) t) := by
  pointwise [val_main_v96, val_main_v95, val_main_v94]
  rw [v92_apply, v93_apply]

/-- The heads' outputs. -/
theorem v97_apply (h : Fin 12) (t : Fin 2048) (d : Fin 64) :
    (val_main_v97 x wq gq wk gk wv gv a b : Vec Ideal S1x12x2048x64 .f32) (ix4 0 h t d)
      = headEach (hm x a b wq gq h) (hm x a b wk gk h) (hm x a b wv gv h) t d := by
  pointwise [val_main_v97]
  exact Finset.sum_congr rfl fun u _ => congrArg₂ (fun y z : EReal => y * z) (v96_apply x wq gq wk gk a b h t u) (v78_apply x wv gv a b h u d)

/-- The heads side by side. -/
theorem v99_apply (t : Fin 2048) (k : Fin 768) :
    (val_main_v99 x wq gq wk gk wv gv a b : Vec Ideal S1x2048x768 .f32) (ix3 0 t k)
      = headEach (hm x a b wq gq (hd k)) (hm x a b wk gk (hd k)) (hm x a b wv gv (hd k)) t (ft k) := by
  pointwise [val_main_v99, val_main_v98]
  exact v97_apply x wq gq wk gk wv gv a b (hd k) t (ft k)

/-- The reference's first result. -/
theorem v101_apply (t : Fin 2048) (o : Fin 768) :
    (val_main_v101 x wq gq wk gk wv gv a b wo : Vec Ideal S1x2048x768 .f32) (ix3 0 t o)
      = ∑ k : Fin 768, headEach (hm x a b wq gq (hd k)) (hm x a b wk gk (hd k)) (hm x a b wv gv (hd k)) t (ft k) * wo (ix2 o k) := by
  pointwise [val_main_v101, val_main_v100]
  exact Finset.sum_congr rfl fun k _ => congrArg (fun y : EReal => y * wo (ix2 o k)) (v99_apply x wq gq wk gk wv gv a b t k)

end Cert.ReferenceIdeal.RefAtt
-- ==== Proof.Agree.lean ====
/- The two programs' results are the same arrays: each of the reference's seven is the kernel's. -/
module

public import proofs.«01_k».proof.Proof.Finite
public import proofs.«01_k».proof.Proof.RefAtt

@[expose] public section

set_option maxRecDepth 16384

noncomputable section

namespace Cert.Agree

open Idealize.ShloMosaic Idealize.ShloMosaic.TcCoe Idealize.SL.Sem
open Cert.KernelIdeal Cert.KernelIdeal.Gen Cert.Spec Cert.KernelIdeal.KVal Cert.KernelIdeal.Finite
open Cert.ReferenceIdeal.Read Cert.ReferenceIdeal.Ref Cert.ReferenceIdeal.RefAtt
open scoped BigOperators

/-! ## Arrays agreeing at every coordinate are equal -/

/-- For arrays of logits. -/
theorem ext_log {y z : Vec Ideal S1x2048x12x8 .f32} (e : ∀ t h p, y (ix4 0 t h p) = z (ix4 0 t h p)) : y = z := by
  funext i
  have hi : i = ix4 0 (i 1) (i 2) (i 3) := by
    funext a
    match a with
    | 0 => exact Subsingleton.elim (α := Fin 1) _ _
    | 1 => rfl
    | 2 => rfl
    | 3 => rfl
  rw [hi]
  exact e _ _ _

/-- For arrays of strengths. -/
theorem ext_raw {y z : Vec Ideal S24576x8 .f32} (e : ∀ t h p, y (ix2 (pos t h) p) = z (ix2 (pos t h) p)) : y = z := by
  funext i
  obtain ⟨t, h, ht⟩ := exists_pos (i 0)
  have hi : i = ix2 (pos t h) (i 1) := by
    funext a
    match a with
    | 0 => exact ht
    | 1 => rfl
  rw [hi]
  exact e _ _ _

/-- For the output. -/
theorem ext_out {y z : Vec Ideal S1x2048x768 .f32} (e : ∀ t o, y (ix3 0 t o) = z (ix3 0 t o)) : y = z := by
  funext i
  have hi : i = ix3 0 (i 1) (i 2) := by
    funext a
    match a with
    | 0 => exact Subsingleton.elim (α := Fin 1) _ _
    | 1 => rfl
    | 2 => rfl
  rw [hi]
  exact e _ _

variable (m : (ℓ : Loc nD τ sig) → Buf (Elt Ideal) ℓ) (ρ : Dev nD → PrngReg) (c : Dev nD)
  {x : Vec Ideal S1x2048x768 .f32} {wq : Vec Ideal S8x64 .f32} {gq : Vec Ideal S8 .f32} {wk : Vec Ideal S8x64 .f32} {gk : Vec Ideal S8 .f32}
  {wv : Vec Ideal S8x64 .f32} {gv : Vec Ideal S8 .f32} {a b : Vec Ideal S8x64x64 .f32} {wo : Vec Ideal S768x768 .f32}
  (ex : x = m ((c : Thread nD τ).loc main_arg0)) (eq : wq = m ((c : Thread nD τ).loc main_arg2)) (fq : gq = m ((c : Thread nD τ).loc main_arg3))
  (ek : wk = m ((c : Thread nD τ).loc main_arg4)) (fk : gk = m ((c : Thread nD τ).loc main_arg5))
  (ev : wv = m ((c : Thread nD τ).loc main_arg6)) (fv : gv = m ((c : Thread nD τ).loc main_arg7))
  (ea : a = m ((c : Thread nD τ).loc main_arg8)) (eb : b = m ((c : Thread nD τ).loc main_arg9)) (eo : wo = m ((c : Thread nD τ).loc main_arg10))

include ex eq fq in
/-- The `q` logits agree. -/
theorem log_q : (val_main_v7 x wq gq : Vec Ideal S1x2048x12x8 .f32) = W11 m ρ c (Proc.devRef .tc main_v36) := by
  subst ex eq fq
  exact ext_log fun t h p => (v7_apply _ _ _ t h p).trans (log11_q m ρ c t h p).symm

include ex ek fk in
/-- The `k` logits agree. -/
theorem log_k : (val_main_v32 x wk gk : Vec Ideal S1x2048x12x8 .f32) = W11 m ρ c (Proc.devRef .tc main_v38) := by
  subst ex ek fk
  exact ext_log fun t h p => (v7_apply _ _ _ t h p).trans (log11_k m ρ c t h p).symm

include ex ev fv in
/-- The `v` logits agree. -/
theorem log_v : (val_main_v57 x wv gv : Vec Ideal S1x2048x12x8 .f32) = W11 m ρ c (Proc.devRef .tc main_v40) := by
  subst ex ev fv
  exact ext_log fun t h p => (v7_apply _ _ _ t h p).trans (log11_v m ρ c t h p).symm

include ex eq fq ea eb in
/-- The `q` strengths agree. -/
theorem raw_q : (val_main_v25 x wq gq a b : Vec Ideal S24576x8 .f32) = W11 m ρ c (Proc.devRef .tc main_v41) := by
  subst ex eq fq ea eb
  exact ext_raw fun t h p => (v25_apply _ _ _ _ _ t h p).trans (raw11_q m ρ c t h p).symm

include ex ek fk ea eb in
/-- The `k` strengths agree. -/
theorem raw_k : (val_main_v50 x wk gk a b : Vec Ideal S24576x8 .f32) = W11 m ρ c (Proc.devRef .tc main_v42) := by
  subst ex ek fk ea eb
  exact ext_raw fun t h p => (v25_apply _ _ _ _ _ t h p).trans (raw11_k m ρ c t h p).symm

include ex ev fv ea eb in
/-- The `v` strengths agree. -/
theorem raw_v : (val_main_v75 x wv gv a b : Vec Ideal S24576x8 .f32) = W11 m ρ c (Proc.devRef .tc main_v43) := by
  subst ex ev fv ea eb
  exact ext_raw fun t h p => (v25_apply _ _ _ _ _ t h p).trans (raw11_v m ρ c t h p).symm

include ex eq fq ek fk ev fv ea eb eo in
/-- On finite inputs the outputs agree. -/
theorem out (H : Cert.Pre_KernelIdeal_finite_inputs m) :
    (val_main_v101 x wq gq wk gk wv gv a b wo : Vec Ideal S1x2048x768 .f32) = W11 m ρ c (Proc.devRef .tc main_v34) := by
  subst ex eq fq ek fk ev fv ea eb eo
  refine ext_out fun t o => (v101_apply _ _ _ _ _ _ _ _ _ _ t o).trans (Eq.trans ?_ (out11 m ρ c t o).symm)
  exact Finset.sum_congr rfl fun k _ => congrArg (fun y : EReal => y * KVal.wo m c o k)
    (headOnce_eq (hq_real H c (hd k)) (hk_real H c (hd k)) (hv m c (hd k)) t (ft k)).symm

end Cert.Agree
-- ==== Proof.lean ====
/- The claim proved: the frames, the idealization, and the two value claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Gen.ReferenceIdeal.Run
public import proofs.«01_k».proof.Proof.Gen.Pre_finite_inputs
public import proofs.«01_k».proof.Proof.Gen.On_routing_results
public import proofs.«01_k».proof.Proof.KRun
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.TcCoe Idealize.SL.Sem

section Reference
open Cert.ReferenceIdeal

/-- The reference runs, ends with every counter at zero, and leaves its arguments unchanged. -/
theorem ref_frame : Cert.quiescent_ReferenceIdeal (hReferenceIdeal := Cert.ReferenceIdeal.Gen.facts) := fun m ρ _ =>
  (θ_run Cert.ReferenceIdeal.defs _ _).mono (fun r h => ⟨fun c => ⟨(h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩,
    Idealize.ShloMosaic.sem_eq_zero_of_no_sems (by decide) r.2⟩) (Cert.ReferenceIdeal.Value.run m ρ)

end Reference

section Values
open Cert.KernelIdeal Cert.KernelIdeal.Gen Cert.ReferenceIdeal.Read

/-- On finite inputs all seven results of the kernel are the reference's. -/
theorem all_results : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := fun m ρ m' ρ' H hm =>
  ⟨fun c => W11 m ρ c (Proc.devRef .tc main_v34),
    fun c => W11 m ρ c (Proc.devRef .tc main_v36),
    fun c => W11 m ρ c (Proc.devRef .tc main_v38),
    fun c => W11 m ρ c (Proc.devRef .tc main_v40),
    fun c => W11 m ρ c (Proc.devRef .tc main_v41),
    fun c => W11 m ρ c (Proc.devRef .tc main_v42),
    fun c => W11 m ρ c (Proc.devRef .tc main_v43),
    (θ_run Cert.KernelIdeal.defs _ _).mono (fun r h c => ⟨h c _ (mem_uc main_v34 (by decide)),
      h c _ (mem_uc main_v36 (by decide)),
      h c _ (mem_uc main_v38 (by decide)),
      h c _ (mem_uc main_v40 (by decide)),
      h c _ (mem_uc main_v41 (by decide)),
      h c _ (mem_uc main_v42 (by decide)),
      h c _ (mem_uc main_v43 (by decide)),
      (h c _ (mem_uc main_arg0 (by decide))).trans (W11_main_arg0 m ρ c), (h c _ (mem_uc main_arg1 (by decide))).trans (W11_main_arg1 m ρ c), (h c _ (mem_uc main_arg2 (by decide))).trans (W11_main_arg2 m ρ c), (h c _ (mem_uc main_arg3 (by decide))).trans (W11_main_arg3 m ρ c), (h c _ (mem_uc main_arg4 (by decide))).trans (W11_main_arg4 m ρ c), (h c _ (mem_uc main_arg5 (by decide))).trans (W11_main_arg5 m ρ c), (h c _ (mem_uc main_arg6 (by decide))).trans (W11_main_arg6 m ρ c), (h c _ (mem_uc main_arg7 (by decide))).trans (W11_main_arg7 m ρ c), (h c _ (mem_uc main_arg8 (by decide))).trans (W11_main_arg8 m ρ c), (h c _ (mem_uc main_arg9 (by decide))).trans (W11_main_arg9 m ρ c), (h c _ (mem_uc main_arg10 (by decide))).trans (W11_main_arg10 m ρ c)⟩) (Cert.KernelIdeal.KRun.run_final m ρ),
    (θ_run Cert.ReferenceIdeal.defs _ _).mono (fun r h c => ⟨((h c).1).trans ((val_main_v101_eq m' c).trans (Agree.out m ρ c ((hm c).1) ((hm c).2.2.1) ((hm c).2.2.2.1) ((hm c).2.2.2.2.1) ((hm c).2.2.2.2.2.1) ((hm c).2.2.2.2.2.2.1) ((hm c).2.2.2.2.2.2.2.1) ((hm c).2.2.2.2.2.2.2.2.1) ((hm c).2.2.2.2.2.2.2.2.2.1) ((hm c).2.2.2.2.2.2.2.2.2.2) H)),
      ((h c).2.1).trans ((val_main_v7_eq _ _ _).trans (Agree.log_q m ρ c ((hm c).1) ((hm c).2.2.1) ((hm c).2.2.2.1))),
      ((h c).2.2.1).trans ((val_main_v32_eq _ _ _).trans (Agree.log_k m ρ c ((hm c).1) ((hm c).2.2.2.2.1) ((hm c).2.2.2.2.2.1))),
      ((h c).2.2.2.1).trans ((val_main_v57_eq _ _ _).trans (Agree.log_v m ρ c ((hm c).1) ((hm c).2.2.2.2.2.2.1) ((hm c).2.2.2.2.2.2.2.1))),
      ((h c).2.2.2.2.1).trans ((val_main_v25_eq m' c).trans (Agree.raw_q m ρ c ((hm c).1) ((hm c).2.2.1) ((hm c).2.2.2.1) ((hm c).2.2.2.2.2.2.2.2.1) ((hm c).2.2.2.2.2.2.2.2.2.1))),
      ((h c).2.2.2.2.2.1).trans ((val_main_v50_eq m' c).trans (Agree.raw_k m ρ c ((hm c).1) ((hm c).2.2.2.2.1) ((hm c).2.2.2.2.2.1) ((hm c).2.2.2.2.2.2.2.2.1) ((hm c).2.2.2.2.2.2.2.2.2.1))),
      ((h c).2.2.2.2.2.2.1).trans ((val_main_v75_eq m' c).trans (Agree.raw_v m ρ c ((hm c).1) ((hm c).2.2.2.2.2.2.1) ((hm c).2.2.2.2.2.2.2.1) ((hm c).2.2.2.2.2.2.2.2.1) ((hm c).2.2.2.2.2.2.2.2.2.1))),
      (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Cert.ReferenceIdeal.Value.run m' ρ')⟩

/-- The mask selects nothing of the first result. -/
theorem mask_out (x0 : FVec Ideal S1x2048x768 .f32) (x1 : IVec S1x2048 32) (x2 : FVec Ideal S8x64 .f32) (x3 : FVec Ideal S8 .f32) (x4 : FVec Ideal S8x64 .f32)
    (x5 : FVec Ideal S8 .f32) (x6 : FVec Ideal S8x64 .f32) (x7 : FVec Ideal S8 .f32) (x8 x9 : FVec Ideal S8x64x64 .f32) (x10 : FVec Ideal S768x768 .f32)
    (i : S1x2048x768.Idx) : ¬ (Cert.On_routing_results.fn (F := Ideal) x0 x1 x2 x3 x4 x5 x6 x7 x8 x9 x10).1 i = 1#1 := by
  intro e
  have e' : (0#1 : BitVec 1) = 1#1 := e
  exact absurd e' (by decide)

/-- On every input the six routing results of the kernel are the reference's. -/
theorem routing_results : Cert.algebraic_KernelIdeal_ReferenceIdeal_on_routing_results (hKernelIdeal := Cert.KernelIdeal.Gen.facts)
    (hReferenceIdeal := Cert.ReferenceIdeal.Gen.facts) (hOn_routing_results := Cert.On_routing_results.Gen.facts) := fun m ρ m' ρ' _ hm =>
  ⟨fun c => W11 m ρ c (Proc.devRef .tc main_v34),
    fun c => W11 m ρ c (Proc.devRef .tc main_v36),
    fun c => W11 m ρ c (Proc.devRef .tc main_v38),
    fun c => W11 m ρ c (Proc.devRef .tc main_v40),
    fun c => W11 m ρ c (Proc.devRef .tc main_v41),
    fun c => W11 m ρ c (Proc.devRef .tc main_v42),
    fun c => W11 m ρ c (Proc.devRef .tc main_v43),
    (θ_run Cert.KernelIdeal.defs _ _).mono (fun r h c => ⟨fun i _ => congrFun (h c _ (mem_uc main_v34 (by decide))) i,
      fun i _ => congrFun (h c _ (mem_uc main_v36 (by decide))) i,
      fun i _ => congrFun (h c _ (mem_uc main_v38 (by decide))) i,
      fun i _ => congrFun (h c _ (mem_uc main_v40 (by decide))) i,
      fun i _ => congrFun (h c _ (mem_uc main_v41 (by decide))) i,
      fun i _ => congrFun (h c _ (mem_uc main_v42 (by decide))) i,
      fun i _ => congrFun (h c _ (mem_uc main_v43 (by decide))) i,
      (h c _ (mem_uc main_arg0 (by decide))).trans (W11_main_arg0 m ρ c), (h c _ (mem_uc main_arg1 (by decide))).trans (W11_main_arg1 m ρ c), (h c _ (mem_uc main_arg2 (by decide))).trans (W11_main_arg2 m ρ c), (h c _ (mem_uc main_arg3 (by decide))).trans (W11_main_arg3 m ρ c), (h c _ (mem_uc main_arg4 (by decide))).trans (W11_main_arg4 m ρ c), (h c _ (mem_uc main_arg5 (by decide))).trans (W11_main_arg5 m ρ c), (h c _ (mem_uc main_arg6 (by decide))).trans (W11_main_arg6 m ρ c), (h c _ (mem_uc main_arg7 (by decide))).trans (W11_main_arg7 m ρ c), (h c _ (mem_uc main_arg8 (by decide))).trans (W11_main_arg8 m ρ c), (h c _ (mem_uc main_arg9 (by decide))).trans (W11_main_arg9 m ρ c), (h c _ (mem_uc main_arg10 (by decide))).trans (W11_main_arg10 m ρ c)⟩) (Cert.KernelIdeal.KRun.run_final m ρ),
    (θ_run Cert.ReferenceIdeal.defs _ _).mono (fun r h c => ⟨fun i hi => absurd hi (mask_out _ _ _ _ _ _ _ _ _ _ _ i),
      fun i _ => congrFun (((h c).2.1).trans ((val_main_v7_eq _ _ _).trans (Agree.log_q m ρ c ((hm c).1) ((hm c).2.2.1) ((hm c).2.2.2.1)))) i,
      fun i _ => congrFun (((h c).2.2.1).trans ((val_main_v32_eq _ _ _).trans (Agree.log_k m ρ c ((hm c).1) ((hm c).2.2.2.2.1) ((hm c).2.2.2.2.2.1)))) i,
      fun i _ => congrFun (((h c).2.2.2.1).trans ((val_main_v57_eq _ _ _).trans (Agree.log_v m ρ c ((hm c).1) ((hm c).2.2.2.2.2.2.1) ((hm c).2.2.2.2.2.2.2.1)))) i,
      fun i _ => congrFun (((h c).2.2.2.2.1).trans ((val_main_v25_eq m' c).trans (Agree.raw_q m ρ c ((hm c).1) ((hm c).2.2.1) ((hm c).2.2.2.1) ((hm c).2.2.2.2.2.2.2.2.1) ((hm c).2.2.2.2.2.2.2.2.2.1)))) i,
      fun i _ => congrFun (((h c).2.2.2.2.2.1).trans ((val_main_v50_eq m' c).trans (Agree.raw_k m ρ c ((hm c).1) ((hm c).2.2.2.2.1) ((hm c).2.2.2.2.2.1) ((hm c).2.2.2.2.2.2.2.2.1) ((hm c).2.2.2.2.2.2.2.2.2.1)))) i,
      fun i _ => congrFun (((h c).2.2.2.2.2.2.1).trans ((val_main_v75_eq m' c).trans (Agree.raw_v m ρ c ((hm c).1) ((hm c).2.2.2.2.2.2.1) ((hm c).2.2.2.2.2.2.2.1) ((hm c).2.2.2.2.2.2.2.2.1) ((hm c).2.2.2.2.2.2.2.2.2.1)))) i,
      (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Cert.ReferenceIdeal.Value.run m' ρ')⟩

end Values

/-- Every claim of the certificate. -/
theorem claim : Cert.Claim :=
  ⟨Cert.Kernel.Gen.facts, Cert.KernelIdeal.Gen.facts, Cert.ReferenceIdeal.Gen.facts, Cert.Pre_finite_inputs.Gen.facts, Cert.On_routing_results.Gen.facts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial, trivial, all_results, routing_results⟩

end Cert.Proof

end
